-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_within_clip [hKernelIdeal : Cert.KernelIdeal.Facts] [hReferenceIdeal : Cert.ReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 2048]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 512]⟩ ⟨2, ![2048, 2048]⟩ 1 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = Layout.block ⟨2, ![512, 2048]⟩ ⟨2, ![2048, 2048]⟩ 0 4 c (m' (((0 : Dev Cert.SiluIdeal.nD).tc : Thread Cert.SiluIdeal.nD Cert.SiluIdeal.τ).loc Cert.SiluIdeal.main_arg1))) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_within_clip (hKernelIdeal := hKernelIdeal) (hReferenceIdeal := hReferenceIdeal) (hOn_within_clip := hOn_within_clip)
    ∧ algebraic_KernelIdeal_SiluIdeal (hKernelIdeal := hKernelIdeal) (hSiluIdeal := hSiluIdeal)
-- ==== On_within_clip.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_cst : FVec F S_ .f32 := constant S_ .f32 0xC2700000#32
  let main_v1 : FVec F S2048x2048 .f32 := broadcastInDim S2048x2048 ![] bcast_S_S2048x2048 main_cst
  let main_v2 : IVec S2048x2048 1 := cmpf .oge main_v0 main_v1
  let main_cst_0 : FVec F S_ .f32 := constant S_ .f32 0x42700000#32
  let main_v3 : FVec F S2048x2048 .f32 := broadcastInDim S2048x2048 ![] bcast_S_S2048x2048 main_cst_0
  let main_v4 : IVec S2048x2048 1 := cmpf .ole main_v0 main_v3
  let main_v5 : IVec S2048x2048 1 := andi main_v2 main_v4
  main_v5
-- ==== Kernel.lean ====
abbrev S2048x512 : Shape := ⟨2, ![2048, 512]⟩
abbrev S512x2048 : Shape := ⟨2, ![512, 2048]⟩
abbrev S2048x2048 : Shape := ⟨2, ![2048, 2048]⟩
abbrev S3x256x2048 : Shape := ⟨3, ![3, 256, 2048]⟩
abbrev S3x4 : Shape := ⟨2, ![3, 4]⟩
abbrev S256x512 : Shape := ⟨2, ![256, 512]⟩
abbrev S256x2048 : Shape := ⟨2, ![256, 2048]⟩
abbrev S1x256x2048 : Shape := ⟨3, ![1, 256, 2048]⟩
abbrev S_ : Shape := ⟨0, ![]⟩
abbrev S1x1 : Shape := ⟨2, ![1, 1]⟩
abbrev S1x64x2048 : Shape := ⟨3, ![1, 64, 2048]⟩
abbrev S64x2048 : Shape := ⟨2, ![64, 2048]⟩
abbrev S64x512 : Shape := ⟨2, ![64, 512]⟩

abbrev nBuf : Space → Nat
  | .hbm => 3
  | .vmem => 7
  | .smem => 0
  | _ => 0

abbrev bufTy : (tb : Table) → Fin (tcTables nBuf tb) → BufTy
  | .hbm, ⟨0, _⟩ => ⟨S2048x512, .f32⟩
  | .hbm, ⟨1, _⟩ => ⟨S512x2048, .f32⟩
  | .hbm, ⟨2, _⟩ => ⟨S2048x2048, .f32⟩
  | .local _ .vmem, ⟨0, _⟩ => ⟨S2048x512, .f32⟩
  | .local _ .vmem, ⟨1, _⟩ => ⟨S512x2048, .f32⟩
  | .local _ .vmem, ⟨2, _⟩ => ⟨S2048x2048, .f32⟩
  | .local _ .vmem, ⟨3, _⟩ => ⟨S3x256x2048, .f32⟩
  | .local _ .vmem, ⟨4, _⟩ => ⟨S3x256x2048, .f32⟩
  | .local _ .vmem, ⟨5, _⟩ => ⟨S3x256x2048, .f32⟩
  | .local _ .vmem, ⟨6, _⟩ => ⟨S3x256x2048, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 99 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | _ => false

abbrev sig : RefSig :=
  (ofTc nBuf bufTy 1 99 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_sem0_0 : DmaSem sig := 0
abbrev cc0_sem1_0 : DmaSem sig := 1
abbrev cc0_sem2_0 : DmaSem sig := 2
abbrev barrier0 : Sem sig := 0

abbrev nD : Nat := 4
abbrev τ : Topo := Topo.v7x

variable {F : FTy → Type} [FloatOps F]

abbrev grid0 : Pipeline.Grid := .none

def k0_off1 (d0 : Dev nD) (c0_i32_13 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32 : BitVec 32 := 512#32
  let v25 : BitVec 32 := Scalar.muli v2 c512_i32
  let v26 : BitVec 32 := Scalar.addi v25 c0_i32_13
  let v27 : Index := Scalar.indexCast v26
  let c0 : Index := 0#32
  ![v27.toNat, 0]
def k0_dev1 (d0 : Dev nD) : Nat :=
  let c0_i32_29 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_28 : BitVec 32 := 1#32
  let v48 : BitVec 32 := Scalar.muli v13 c1_i32_28
  let v49 : BitVec 32 := Scalar.addi c0_i32_29 v48
  v49.toNat
def k0_dev2 (d0 : Dev nD) : Nat :=
  let c0_i32_32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_31 : BitVec 32 := 1#32
  let v50 : BitVec 32 := Scalar.muli v24 c1_i32_31
  let v51 : BitVec 32 := Scalar.addi c0_i32_32 v50
  v51.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_39 : BitVec 32 := 1#32
  let v52 : BitVec 32 := Scalar.muli v24 c1_i32_39
  let v53 : BitVec 32 := Scalar.addi c0_i32_40 v52
  v53.toNat
def k0_dev4 (d0 : Dev nD) : Nat :=
  let c0_i32_52 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_51 : BitVec 32 := 1#32
  let v62 : BitVec 32 := Scalar.muli v13 c1_i32_51
  let v63 : BitVec 32 := Scalar.addi c0_i32_52 v62
  v63.toNat
def k0_dev5 (d0 : Dev nD) : Nat :=
  let c0_i32_64 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_63 : BitVec 32 := 1#32
  let v72 : BitVec 32 := Scalar.muli v24 c1_i32_63
  let v73 : BitVec 32 := Scalar.addi c0_i32_64 v72
  v73.toNat
def k0_dev6 (d0 : Dev nD) : Nat :=
  let c0_i32_75 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_74 : BitVec 32 := 1#32
  let v82 : BitVec 32 := Scalar.muli v13 c1_i32_74
  let v83 : BitVec 32 := Scalar.addi c0_i32_75 v82
  v83.toNat
def k0_dev7 (d0 : Dev nD) : Nat :=
  let c0_i32_87 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_86 : BitVec 32 := 1#32
  let v92 : BitVec 32 := Scalar.muli v24 c1_i32_86
  let v93 : BitVec 32 := Scalar.addi c0_i32_87 v92
  v93.toNat
def k0_dev8 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_97 : BitVec 32 := 1#32
  let v102 : BitVec 32 := Scalar.muli v13 c1_i32_97
  let v103 : BitVec 32 := Scalar.addi c0_i32_98 v102
  v103.toNat
def k0_dev9 (d0 : Dev nD) : Nat :=
  let c0_i32_109 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_108 : BitVec 32 := 1#32
  let v112 : BitVec 32 := Scalar.muli v24 c1_i32_108
  let v113 : BitVec 32 := Scalar.addi c0_i32_109 v112
  v113.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_119 : BitVec 32 := 1#32
  let v122 : BitVec 32 := Scalar.muli v13 c1_i32_119
  let v123 : BitVec 32 := Scalar.addi c0_i32_120 v122
  v123.toNat
def k0_off2 (d0 : Dev nD) (c0_i32_125 : BitVec 32) (c0_i32_143 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v132 : BitVec 32 := Scalar.subi v2 c0_i32_125
  let c1_i32_126 : BitVec 32 := 1#32
  let v133 : BitVec 32 := Scalar.subi v132 c1_i32_126
  let c4_i32_127 : BitVec 32 := 4#32
  let c0_i32_128 : BitVec 32 := 0#32
  let v134 : BitVec 1 := Scalar.cmpi .eq c4_i32_127 c0_i32_128
  let c1_i32_129 : BitVec 32 := 1#32
  let v135 : BitVec 32 := Scalar.select v134 c1_i32_129 c4_i32_127
  let v136 : BitVec 32 := Scalar.remsi v133 v135
  let c0_i32_131 : BitVec 32 := 0#32
  let v138 : BitVec 1 := Scalar.cmpi .slt v136 c0_i32_131
  let c0_i32_132 : BitVec 32 := 0#32
  let v139 : BitVec 1 := Scalar.cmpi .slt v135 c0_i32_132
  let v140 : BitVec 1 := Scalar.xori v138 v139
  let c0_i32_130 : BitVec 32 := 0#32
  let v137 : BitVec 1 := Scalar.cmpi .ne v136 c0_i32_130
  let v141 : BitVec 1 := Scalar.andi v140 v137
  let v142 : BitVec 32 := Scalar.addi v136 v135
  let v143 : BitVec 32 := Scalar.select v141 v142 v136
  let c512_i32_141 : BitVec 32 := 512#32
  let v156 : BitVec 32 := Scalar.muli v143 c512_i32_141
  let c0_i32_142 : BitVec 32 := 0#32
  let v157 : BitVec 32 := Scalar.addi v156 c0_i32_142
  let v158 : BitVec 32 := Scalar.addi v157 c0_i32_143
  let v159 : Index := Scalar.indexCast v158
  let c0_144 : Index := 0#32
  ![v159.toNat, 0]
def k0_dev11 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_171 : BitVec 32 := 1#32
  let v179 : BitVec 32 := Scalar.muli v24 c1_i32_171
  let v180 : BitVec 32 := Scalar.addi c0_i32_172 v179
  v180.toNat
def k0_off3 (d0 : Dev nD) (c0_i32_133 : BitVec 32) (c0_i32_179 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v144 : BitVec 32 := Scalar.addi v2 c0_i32_133
  let c1_i32_134 : BitVec 32 := 1#32
  let v145 : BitVec 32 := Scalar.addi v144 c1_i32_134
  let c4_i32_135 : BitVec 32 := 4#32
  let c0_i32_136 : BitVec 32 := 0#32
  let v146 : BitVec 1 := Scalar.cmpi .eq c4_i32_135 c0_i32_136
  let c1_i32_137 : BitVec 32 := 1#32
  let v147 : BitVec 32 := Scalar.select v146 c1_i32_137 c4_i32_135
  let v148 : BitVec 32 := Scalar.remsi v145 v147
  let c0_i32_139 : BitVec 32 := 0#32
  let v150 : BitVec 1 := Scalar.cmpi .slt v148 c0_i32_139
  let c0_i32_140 : BitVec 32 := 0#32
  let v151 : BitVec 1 := Scalar.cmpi .slt v147 c0_i32_140
  let v152 : BitVec 1 := Scalar.xori v150 v151
  let c0_i32_138 : BitVec 32 := 0#32
  let v149 : BitVec 1 := Scalar.cmpi .ne v148 c0_i32_138
  let v153 : BitVec 1 := Scalar.andi v152 v149
  let v154 : BitVec 32 := Scalar.addi v148 v147
  let v155 : BitVec 32 := Scalar.select v153 v154 v148
  let c512_i32_177 : BitVec 32 := 512#32
  let v189 : BitVec 32 := Scalar.muli v155 c512_i32_177
  let c256_i32_178 : BitVec 32 := 256#32
  let v190 : BitVec 32 := Scalar.addi v189 c256_i32_178
  let v191 : BitVec 32 := Scalar.addi v190 c0_i32_179
  let v192 : Index := Scalar.indexCast v191
  let c0_180 : Index := 0#32
  ![v192.toNat, 0]
def k0_dev12 (d0 : Dev nD) : Nat :=
  let c0_i32_209 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_208 : BitVec 32 := 1#32
  let v212 : BitVec 32 := Scalar.muli v13 c1_i32_208
  let v213 : BitVec 32 := Scalar.addi c0_i32_209 v212
  v213.toNat
def k0_dev13 (d0 : Dev nD) : Nat :=
  let c0_i32_245 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_244 : BitVec 32 := 1#32
  let v245 : BitVec 32 := Scalar.muli v24 c1_i32_244
  let v246 : BitVec 32 := Scalar.addi c0_i32_245 v245
  v246.toNat
def k0_dev14 (d0 : Dev nD) : Nat :=
  let c0_i32_282 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_281 : BitVec 32 := 1#32
  let v278 : BitVec 32 := Scalar.muli v13 c1_i32_281
  let v279 : BitVec 32 := Scalar.addi c0_i32_282 v278
  v279.toNat
def k0_dev15 (d0 : Dev nD) : Nat :=
  let c0_i32_318 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_317 : BitVec 32 := 1#32
  let v311 : BitVec 32 := Scalar.muli v24 c1_i32_317
  let v312 : BitVec 32 := Scalar.addi c0_i32_318 v311
  v312.toNat
def k0_dev16 (d0 : Dev nD) : Nat :=
  let c0_i32_355 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_354 : BitVec 32 := 1#32
  let v344 : BitVec 32 := Scalar.muli v13 c1_i32_354
  let v345 : BitVec 32 := Scalar.addi c0_i32_355 v344
  v345.toNat
def k0_dev17 (d0 : Dev nD) : Nat :=
  let c0_i32_391 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_390 : BitVec 32 := 1#32
  let v377 : BitVec 32 := Scalar.muli v24 c1_i32_390
  let v378 : BitVec 32 := Scalar.addi c0_i32_391 v377
  v378.toNat
def k0_dev18 (d0 : Dev nD) : Nat :=
  let c0_i32_428 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_427 : BitVec 32 := 1#32
  let v410 : BitVec 32 := Scalar.muli v13 c1_i32_427
  let v411 : BitVec 32 := Scalar.addi c0_i32_428 v410
  v411.toNat
def k0_dev19 (d0 : Dev nD) : Nat :=
  let c0_i32_480 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_479 : BitVec 32 := 1#32
  let v467 : BitVec 32 := Scalar.muli v24 c1_i32_479
  let v468 : BitVec 32 := Scalar.addi c0_i32_480 v467
  v468.toNat
def k0_dev20 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_516 : BitVec 32 := 1#32
  let v500 : BitVec 32 := Scalar.muli v13 c1_i32_516
  let v501 : BitVec 32 := Scalar.addi c0_i32_517 v500
  v501.toNat
def k0_dev21 (d0 : Dev nD) : Nat :=
  let c0_i32_554 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_553 : BitVec 32 := 1#32
  let v533 : BitVec 32 := Scalar.muli v24 c1_i32_553
  let v534 : BitVec 32 := Scalar.addi c0_i32_554 v533
  v534.toNat
def k0_dev22 (d0 : Dev nD) : Nat :=
  let c0_i32_591 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_590 : BitVec 32 := 1#32
  let v566 : BitVec 32 := Scalar.muli v13 c1_i32_590
  let v567 : BitVec 32 := Scalar.addi c0_i32_591 v566
  v567.toNat
def k0_dev23 (d0 : Dev nD) : Nat :=
  let c0_i32_628 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_627 : BitVec 32 := 1#32
  let v599 : BitVec 32 := Scalar.muli v24 c1_i32_627
  let v600 : BitVec 32 := Scalar.addi c0_i32_628 v599
  v600.toNat
def k0_dev24 (d0 : Dev nD) : Nat :=
  let c0_i32_665 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_664 : BitVec 32 := 1#32
  let v632 : BitVec 32 := Scalar.muli v13 c1_i32_664
  let v633 : BitVec 32 := Scalar.addi c0_i32_665 v632
  v633.toNat
def k0_dev25 (d0 : Dev nD) : Nat :=
  let c0_i32_702 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_701 : BitVec 32 := 1#32
  let v665 : BitVec 32 := Scalar.muli v24 c1_i32_701
  let v666 : BitVec 32 := Scalar.addi c0_i32_702 v665
  v666.toNat
def k0_dev26 (d0 : Dev nD) : Nat :=
  let c0_i32_739 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_738 : BitVec 32 := 1#32
  let v698 : BitVec 32 := Scalar.muli v13 c1_i32_738
  let v699 : BitVec 32 := Scalar.addi c0_i32_739 v698
  v699.toNat
def k0_off4 (d0 : Dev nD) (c0_i32_762 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_744 : BitVec 32 := 2#32
  let v708 : BitVec 32 := Scalar.subi v2 c2_i32_744
  let c1_i32_745 : BitVec 32 := 1#32
  let v709 : BitVec 32 := Scalar.subi v708 c1_i32_745
  let c4_i32_746 : BitVec 32 := 4#32
  let c0_i32_747 : BitVec 32 := 0#32
  let v710 : BitVec 1 := Scalar.cmpi .eq c4_i32_746 c0_i32_747
  let c1_i32_748 : BitVec 32 := 1#32
  let v711 : BitVec 32 := Scalar.select v710 c1_i32_748 c4_i32_746
  let v712 : BitVec 32 := Scalar.remsi v709 v711
  let c0_i32_750 : BitVec 32 := 0#32
  let v714 : BitVec 1 := Scalar.cmpi .slt v712 c0_i32_750
  let c0_i32_751 : BitVec 32 := 0#32
  let v715 : BitVec 1 := Scalar.cmpi .slt v711 c0_i32_751
  let v716 : BitVec 1 := Scalar.xori v714 v715
  let c0_i32_749 : BitVec 32 := 0#32
  let v713 : BitVec 1 := Scalar.cmpi .ne v712 c0_i32_749
  let v717 : BitVec 1 := Scalar.andi v716 v713
  let v718 : BitVec 32 := Scalar.addi v712 v711
  let v719 : BitVec 32 := Scalar.select v717 v718 v712
  let c512_i32_760 : BitVec 32 := 512#32
  let v732 : BitVec 32 := Scalar.muli v719 c512_i32_760
  let c0_i32_761 : BitVec 32 := 0#32
  let v733 : BitVec 32 := Scalar.addi v732 c0_i32_761
  let v734 : BitVec 32 := Scalar.addi v733 c0_i32_762
  let v760 : Index := Scalar.indexCast v734
  let c0_785 : Index := 0#32
  ![v760.toNat, 0]
def k0_off5 (d0 : Dev nD) (c0_i32_786 : BitVec 32) (c0_i32_796 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v762 : BitVec 32 := Scalar.subi v2 c0_i32_786
  let c1_i32_787 : BitVec 32 := 1#32
  let v763 : BitVec 32 := Scalar.addi v762 c1_i32_787
  let c4_i32_788 : BitVec 32 := 4#32
  let c0_i32_789 : BitVec 32 := 0#32
  let v764 : BitVec 1 := Scalar.cmpi .eq c4_i32_788 c0_i32_789
  let c1_i32_790 : BitVec 32 := 1#32
  let v765 : BitVec 32 := Scalar.select v764 c1_i32_790 c4_i32_788
  let v766 : BitVec 32 := Scalar.remsi v763 v765
  let c0_i32_792 : BitVec 32 := 0#32
  let v768 : BitVec 1 := Scalar.cmpi .slt v766 c0_i32_792
  let c0_i32_793 : BitVec 32 := 0#32
  let v769 : BitVec 1 := Scalar.cmpi .slt v765 c0_i32_793
  let v770 : BitVec 1 := Scalar.xori v768 v769
  let c0_i32_791 : BitVec 32 := 0#32
  let v767 : BitVec 1 := Scalar.cmpi .ne v766 c0_i32_791
  let v771 : BitVec 1 := Scalar.andi v770 v767
  let v772 : BitVec 32 := Scalar.addi v766 v765
  let v773 : BitVec 32 := Scalar.select v771 v772 v766
  let c512_i32_794 : BitVec 32 := 512#32
  let v774 : BitVec 32 := Scalar.muli v773 c512_i32_794
  let c0_i32_795 : BitVec 32 := 0#32
  let v775 : BitVec 32 := Scalar.addi v774 c0_i32_795
  let v776 : BitVec 32 := Scalar.addi v775 c0_i32_796
  let c0_i32_803 : BitVec 32 := 0#32
  ![v776.toNat, 0]
def k0_dev27 (d0 : Dev nD) : Nat :=
  let c0_i32_802 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_801 : BitVec 32 := 1#32
  let v777 : BitVec 32 := Scalar.muli v24 c1_i32_801
  let v778 : BitVec 32 := Scalar.addi c0_i32_802 v777
  v778.toNat
def k0_off6 (d0 : Dev nD) (c0_i32_807 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_752 : BitVec 32 := 2#32
  let v720 : BitVec 32 := Scalar.addi v2 c2_i32_752
  let c1_i32_753 : BitVec 32 := 1#32
  let v721 : BitVec 32 := Scalar.addi v720 c1_i32_753
  let c4_i32_754 : BitVec 32 := 4#32
  let c0_i32_755 : BitVec 32 := 0#32
  let v722 : BitVec 1 := Scalar.cmpi .eq c4_i32_754 c0_i32_755
  let c1_i32_756 : BitVec 32 := 1#32
  let v723 : BitVec 32 := Scalar.select v722 c1_i32_756 c4_i32_754
  let v724 : BitVec 32 := Scalar.remsi v721 v723
  let c0_i32_758 : BitVec 32 := 0#32
  let v726 : BitVec 1 := Scalar.cmpi .slt v724 c0_i32_758
  let c0_i32_759 : BitVec 32 := 0#32
  let v727 : BitVec 1 := Scalar.cmpi .slt v723 c0_i32_759
  let v728 : BitVec 1 := Scalar.xori v726 v727
  let c0_i32_757 : BitVec 32 := 0#32
  let v725 : BitVec 1 := Scalar.cmpi .ne v724 c0_i32_757
  let v729 : BitVec 1 := Scalar.andi v728 v725
  let v730 : BitVec 32 := Scalar.addi v724 v723
  let v731 : BitVec 32 := Scalar.select v729 v730 v724
  let c512_i32_805 : BitVec 32 := 512#32
  let v785 : BitVec 32 := Scalar.muli v731 c512_i32_805
  let c256_i32_806 : BitVec 32 := 256#32
  let v786 : BitVec 32 := Scalar.addi v785 c256_i32_806
  let v787 : BitVec 32 := Scalar.addi v786 c0_i32_807
  let v813 : Index := Scalar.indexCast v787
  let c0_830 : Index := 0#32
  ![v813.toNat, 0]
def k0_off7 (d0 : Dev nD) (c0_i32_831 : BitVec 32) (c0_i32_841 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v815 : BitVec 32 := Scalar.addi v2 c0_i32_831
  let c1_i32_832 : BitVec 32 := 1#32
  let v816 : BitVec 32 := Scalar.subi v815 c1_i32_832
  let c4_i32_833 : BitVec 32 := 4#32
  let c0_i32_834 : BitVec 32 := 0#32
  let v817 : BitVec 1 := Scalar.cmpi .eq c4_i32_833 c0_i32_834
  let c1_i32_835 : BitVec 32 := 1#32
  let v818 : BitVec 32 := Scalar.select v817 c1_i32_835 c4_i32_833
  let v819 : BitVec 32 := Scalar.remsi v816 v818
  let c0_i32_837 : BitVec 32 := 0#32
  let v821 : BitVec 1 := Scalar.cmpi .slt v819 c0_i32_837
  let c0_i32_838 : BitVec 32 := 0#32
  let v822 : BitVec 1 := Scalar.cmpi .slt v818 c0_i32_838
  let v823 : BitVec 1 := Scalar.xori v821 v822
  let c0_i32_836 : BitVec 32 := 0#32
  let v820 : BitVec 1 := Scalar.cmpi .ne v819 c0_i32_836
  let v824 : BitVec 1 := Scalar.andi v823 v820
  let v825 : BitVec 32 := Scalar.addi v819 v818
  let v826 : BitVec 32 := Scalar.select v824 v825 v819
  let c512_i32_839 : BitVec 32 := 512#32
  let v827 : BitVec 32 := Scalar.muli v826 c512_i32_839
  let c256_i32_840 : BitVec 32 := 256#32
  let v828 : BitVec 32 := Scalar.addi v827 c256_i32_840
  let v829 : BitVec 32 := Scalar.addi v828 c0_i32_841
  let c0_i32_848 : BitVec 32 := 0#32
  ![v829.toNat, 0]
def k0_dev28 (d0 : Dev nD) : Nat :=
  let c0_i32_847 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_846 : BitVec 32 := 1#32
  let v830 : BitVec 32 := Scalar.muli v13 c1_i32_846
  let v831 : BitVec 32 := Scalar.addi c0_i32_847 v830
  v831.toNat
def k0_dev29 (d0 : Dev nD) : Nat :=
  let c0_i32_892 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_891 : BitVec 32 := 1#32
  let v883 : BitVec 32 := Scalar.muli v24 c1_i32_891
  let v884 : BitVec 32 := Scalar.addi c0_i32_892 v883
  v884.toNat
def k0_dev30 (d0 : Dev nD) : Nat :=
  let c0_i32_937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_936 : BitVec 32 := 1#32
  let v936 : BitVec 32 := Scalar.muli v13 c1_i32_936
  let v937 : BitVec 32 := Scalar.addi c0_i32_937 v936
  v937.toNat
def k0_dev31 (d0 : Dev nD) : Nat :=
  let c0_i32_982 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_981 : BitVec 32 := 1#32
  let v989 : BitVec 32 := Scalar.muli v24 c1_i32_981
  let v990 : BitVec 32 := Scalar.addi c0_i32_982 v989
  v990.toNat
def k0_dev32 (d0 : Dev nD) : Nat :=
  let c0_i32_1027 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1026 : BitVec 32 := 1#32
  let v1042 : BitVec 32 := Scalar.muli v13 c1_i32_1026
  let v1043 : BitVec 32 := Scalar.addi c0_i32_1027 v1042
  v1043.toNat
def k0_dev33 (d0 : Dev nD) : Nat :=
  let c0_i32_1072 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1071 : BitVec 32 := 1#32
  let v1095 : BitVec 32 := Scalar.muli v24 c1_i32_1071
  let v1096 : BitVec 32 := Scalar.addi c0_i32_1072 v1095
  v1096.toNat
def k0_dev34 (d0 : Dev nD) : Nat :=
  let c0_i32_1117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1116 : BitVec 32 := 1#32
  let v1148 : BitVec 32 := Scalar.muli v13 c1_i32_1116
  let v1149 : BitVec 32 := Scalar.addi c0_i32_1117 v1148
  v1149.toNat
def k0_dev35 (d0 : Dev nD) : Nat :=
  let c0_i32_1155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1154 : BitVec 32 := 1#32
  let v1192 : BitVec 32 := Scalar.muli v24 c1_i32_1154
  let v1193 : BitVec 32 := Scalar.addi c0_i32_1155 v1192
  v1193.toNat
def k0_dev36 (d0 : Dev nD) : Nat :=
  let c0_i32_1193 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1192 : BitVec 32 := 1#32
  let v1236 : BitVec 32 := Scalar.muli v13 c1_i32_1192
  let v1237 : BitVec 32 := Scalar.addi c0_i32_1193 v1236
  v1237.toNat
def k0_dev37 (d0 : Dev nD) : Nat :=
  let c0_i32_1231 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1230 : BitVec 32 := 1#32
  let v1280 : BitVec 32 := Scalar.muli v24 c1_i32_1230
  let v1281 : BitVec 32 := Scalar.addi c0_i32_1231 v1280
  v1281.toNat
def k0_dev38 (d0 : Dev nD) : Nat :=
  let c0_i32_1269 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1268 : BitVec 32 := 1#32
  let v1324 : BitVec 32 := Scalar.muli v13 c1_i32_1268
  let v1325 : BitVec 32 := Scalar.addi c0_i32_1269 v1324
  v1325.toNat
def k0_dev39 (d0 : Dev nD) : Nat :=
  let c0_i32_1307 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1306 : BitVec 32 := 1#32
  let v1368 : BitVec 32 := Scalar.muli v24 c1_i32_1306
  let v1369 : BitVec 32 := Scalar.addi c0_i32_1307 v1368
  v1369.toNat
def k0_dev40 (d0 : Dev nD) : Nat :=
  let c0_i32_1345 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1344 : BitVec 32 := 1#32
  let v1412 : BitVec 32 := Scalar.muli v13 c1_i32_1344
  let v1413 : BitVec 32 := Scalar.addi c0_i32_1345 v1412
  v1413.toNat
def k0_dev41 (d0 : Dev nD) : Nat :=
  let c0_i32_1383 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1382 : BitVec 32 := 1#32
  let v1456 : BitVec 32 := Scalar.muli v24 c1_i32_1382
  let v1457 : BitVec 32 := Scalar.addi c0_i32_1383 v1456
  v1457.toNat
def k0_dev42 (d0 : Dev nD) : Nat :=
  let c0_i32_1421 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1420 : BitVec 32 := 1#32
  let v1500 : BitVec 32 := Scalar.muli v13 c1_i32_1420
  let v1501 : BitVec 32 := Scalar.addi c0_i32_1421 v1500
  v1501.toNat
def k0_dev43 (d0 : Dev nD) : Nat :=
  let c0_i32_1459 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1458 : BitVec 32 := 1#32
  let v1544 : BitVec 32 := Scalar.muli v24 c1_i32_1458
  let v1545 : BitVec 32 := Scalar.addi c0_i32_1459 v1544
  v1545.toNat
def k0_dev44 (d0 : Dev nD) : Nat :=
  let c0_i32_1497 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1496 : BitVec 32 := 1#32
  let v1588 : BitVec 32 := Scalar.muli v13 c1_i32_1496
  let v1589 : BitVec 32 := Scalar.addi c0_i32_1497 v1588
  v1589.toNat
def k0_dev45 (d0 : Dev nD) : Nat :=
  let c0_i32_1535 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1534 : BitVec 32 := 1#32
  let v1632 : BitVec 32 := Scalar.muli v24 c1_i32_1534
  let v1633 : BitVec 32 := Scalar.addi c0_i32_1535 v1632
  v1633.toNat
def k0_dev46 (d0 : Dev nD) : Nat :=
  let c0_i32_1573 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1572 : BitVec 32 := 1#32
  let v1676 : BitVec 32 := Scalar.muli v13 c1_i32_1572
  let v1677 : BitVec 32 := Scalar.addi c0_i32_1573 v1676
  v1677.toNat
def k0_dev47 (d0 : Dev nD) : Nat :=
  let c0_i32_1611 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1610 : BitVec 32 := 1#32
  let v1720 : BitVec 32 := Scalar.muli v24 c1_i32_1610
  let v1721 : BitVec 32 := Scalar.addi c0_i32_1611 v1720
  v1721.toNat
def k0_dev48 (d0 : Dev nD) : Nat :=
  let c0_i32_1649 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1648 : BitVec 32 := 1#32
  let v1764 : BitVec 32 := Scalar.muli v13 c1_i32_1648
  let v1765 : BitVec 32 := Scalar.addi c0_i32_1649 v1764
  v1765.toNat
def k0_dev49 (d0 : Dev nD) : Nat :=
  let c0_i32_1687 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_6 : BitVec 32 := 1#32
  let v14 : BitVec 32 := Scalar.addi v2 c1_i32_6
  let c4_i32_7 : BitVec 32 := 4#32
  let c0_i32_8 : BitVec 32 := 0#32
  let v15 : BitVec 1 := Scalar.cmpi .eq c4_i32_7 c0_i32_8
  let c1_i32_9 : BitVec 32 := 1#32
  let v16 : BitVec 32 := Scalar.select v15 c1_i32_9 c4_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_1686 : BitVec 32 := 1#32
  let v1808 : BitVec 32 := Scalar.muli v24 c1_i32_1686
  let v1809 : BitVec 32 := Scalar.addi c0_i32_1687 v1808
  v1809.toNat
def k0_dev50 (d0 : Dev nD) : Nat :=
  let c0_i32_1725 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.subi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_1724 : BitVec 32 := 1#32
  let v1852 : BitVec 32 := Scalar.muli v13 c1_i32_1724
  let v1853 : BitVec 32 := Scalar.addi c0_i32_1725 v1852
  v1853.toNat
abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S2048x2048 : Shape := ⟨2, ![2048, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.KernelIdeal.Loops.lean ====
/-
The kernel's body as loops. The printed body is the straight-line unrolling of five loops over the hop,
the segment of a chunk and the direction around the ring; `loopBody` writes those loops down, each
iteration at a symbolic hop, segment and direction, and `cc0_body_eq` states that the printed body is
that program.
-/
module

public import proofs.«01_k».proof.Proof.Gen.KernelIdeal.Skeleton
public import proofs.«01_k».proof.Proof.Gen.KernelIdeal.Launch

@[expose] public section

noncomputable section

namespace Cert.KernelIdeal.Ring

open Idealize.ShloMosaic Idealize.SL.Sem Cert.KernelIdeal Cert.KernelIdeal.Gen

variable {F : FTy → Type} [FloatOps F]

/-- What the body is called with: the blocks of the two operands, the result's block, and per direction
    (`false` to the right, `true` to the left) the running sums, the landing buffers and the four arrays
    of transfer semaphores. -/
structure Args where
  x : Memref sig .tc .vmem S2048x512 .f32
  w : Memref sig .tc .vmem S512x2048 .f32
  out : Memref sig .tc .vmem S2048x2048 .f32
  acc : Bool → Memref sig .tc .vmem S3x256x2048 .f32
  rcv : Bool → Memref sig .tc .vmem S3x256x2048 .f32
  rsS : Bool → DmaSems sig S3x4
  rsR : Bool → DmaSems sig S3x4
  agS : Bool → DmaSems sig S3x4
  agR : Bool → DmaSems sig S3x4

/-- One semaphore of a 3 by 4 array lies inside it. -/
theorem semIn : ∀ (h : Fin 3) (s : Fin 4), ∀ a, (![h.val, s.val] : Fin 2 → ℕ) a + S1x1.size a ≤ S3x4.size a := by
  decide

/-- The semaphore of an array for hop `h` and segment `s`. -/
abbrev semAt (A : DmaSems sig S3x4) (h : Fin 3) (s : Fin 4) : DmaSems sig S_ :=
  (A.slice (Rect.unit (s := S3x4) ![h.val, s.val] S1x1.size (semIn h s))).squeeze S_ squeezes_S1x1_S_

/-- Segment `s` of slot `h` lies inside a buffer of three slots. -/
theorem segIn (h : Fin 3) (s : Fin 4) :
    ∀ a, (![h.val, 64 * s.val, 0] : Fin 3 → ℕ) a + S1x64x2048.size a ≤ S3x256x2048.size a := by
  intro a
  have hh := h.isLt
  have hs := s.isLt
  match a with
  | 0 => show h.val + 1 ≤ 3; omega
  | 1 => show 64 * s.val + 64 ≤ 256; omega
  | 2 => show 0 + 2048 ≤ 2048; omega

/-- Segment `s` of slot `h` as a rectangle. -/
abbrev segRect (h : Fin 3) (s : Fin 4) : Rect S3x256x2048 :=
  Rect.unit (s := S3x256x2048) ![h.val, 64 * s.val, 0] S1x64x2048.size (segIn h s)

/-- Segment `s` of slot `h` of a buffer of three slots, as rows. -/
abbrev segAt (b : Memref sig .tc .vmem S3x256x2048 .f32) (h : Fin 3) (s : Fin 4) :
    Memref sig .tc .vmem S64x2048 .f32 :=
  (b.slice (segRect h s) (fun _ => rfl)).squeeze S64x2048 squeezes_S1x64x2048_S64x2048

/-- The device that direction `d` sends to, as the kernel computes it. -/
abbrev toDev (d : Bool) (c : Dev nD) : Dev nD :=
  cond d ⟨k0_dev4 c, k0_dev4_lt c⟩ ⟨k0_dev3 c, k0_dev3_lt c⟩

/-- Where the rows of `x` for hop `h`, segment `s` start. -/
abbrev xOff (d : Bool) (c : Dev nD) (h : Fin 3) (s : Fin 4) : Fin 2 → ℕ :=
  cond d (k0_off3 c (BitVec.ofNat 32 h.val) (BitVec.ofNat 32 (64 * s.val)))
    (k0_off2 c (BitVec.ofNat 32 h.val) (BitVec.ofNat 32 (64 * s.val)))

/-- Those rows lie inside `x`. -/
theorem xIn (d : Bool) (c : Dev nD) (h : Fin 3) (s : Fin 4) :
    ∀ a, xOff d c h s a + S64x512.size a ≤ S2048x512.size a := by
  cases d
  · exact k0_off2_inb c h s
  · exact k0_off3_inb c h s

/-- The rows of `x` for hop `h`, segment `s`. -/
abbrev xRect (d : Bool) (c : Dev nD) (h : Fin 3) (s : Fin 4) : Rect S2048x512 :=
  Rect.unit (s := S2048x512) (xOff d c h s) S64x512.size (xIn d c h s)

/-- The whole of `w`. -/
abbrev wRect : Rect S512x2048 :=
  Rect.unit (s := S512x2048) ![0, 0] S512x2048.size inb_S512x2048_S512x2048_0_0

/-- Where the rows of the result that a device finishes itself start. -/
abbrev ownOff (d : Bool) (c : Dev nD) (s : Fin 4) : Fin 2 → ℕ :=
  cond d (k0_off6 c (BitVec.ofNat 32 (64 * s.val))) (k0_off4 c (BitVec.ofNat 32 (64 * s.val)))

/-- Those rows lie inside the result. -/
theorem ownIn (d : Bool) (c : Dev nD) (s : Fin 4) :
    ∀ a, ownOff d c s a + S64x2048.size a ≤ S2048x2048.size a := by
  cases d
  · exact k0_off4_inb c s
  · exact k0_off6_inb c s

/-- The rows of the result that a device finishes itself. -/
abbrev ownRect (d : Bool) (c : Dev nD) (s : Fin 4) : Rect S2048x2048 :=
  Rect.unit (s := S2048x2048) (ownOff d c s) S64x2048.size (ownIn d c s)

/-- Where the rows of the result that device `c` sends on at gather hop `g` start. -/
abbrev agOff (d : Bool) (c : Dev nD) (g : Fin 3) (s : Fin 4) : Fin 2 → ℕ :=
  cond d (k0_off7 c (BitVec.ofNat 32 g.val) (BitVec.ofNat 32 (64 * s.val)))
    (k0_off5 c (BitVec.ofNat 32 g.val) (BitVec.ofNat 32 (64 * s.val)))

/-- Those rows lie inside the result. -/
theorem agIn (d : Bool) (c : Dev nD) (g : Fin 3) (s : Fin 4) :
    ∀ a, agOff d c g s a + S64x2048.size a ≤ S2048x2048.size a := by
  cases d
  · exact k0_off5_inb c g s
  · exact k0_off7_inb c g s

/-- The rows of the result that device `c` sends on at gather hop `g`. -/
abbrev agRect (d : Bool) (c : Dev nD) (g : Fin 3) (s : Fin 4) : Rect S2048x2048 :=
  Rect.unit (s := S2048x2048) (agOff d c g s) S64x2048.size (agIn d c g s)

/-- Those rows of the result's block. -/
abbrev agAt (b : Memref sig .tc .vmem S2048x2048 .f32) (d : Bool) (c : Dev nD) (g : Fin 3) (s : Fin 4) :
    Memref sig .tc .vmem S64x2048 .f32 :=
  b.slice (agRect d c g s) (fun _ => rfl)

/-- The half chunk `r` of a device's own chunk lies inside `x`. -/
abbrev ownXRect (c : Dev nD) (d : Bool) : Rect S2048x512 :=
  cond d (Rect.unit (s := S2048x512) (k0_off1 c 256#32) S256x512.size (k0_off1_inb c 1))
    (Rect.unit (s := S2048x512) (k0_off1 c 0#32) S256x512.size (k0_off1_inb c 0))

/-- Slot 0 of a buffer of three slots. -/
abbrev slot0 : Rect S3x256x2048 :=
  Rect.unit (s := S3x256x2048) ![0, 0, 0] S1x256x2048.size inb_S3x256x2048_S1x256x2048_0_0_0

/-- The effect type of the body. -/
abbrev Eff (F : FTy → Type) [FloatOps F] := TpuEff nD τ sig (Elt F) Λ₀ .tc

/-- Run `f` on each element of a list, in order. -/
def forL {α : Type} (f : α → Prog (Eff F) PUnit) : List α → Prog (Eff F) PUnit
  | [] => pure ⟨⟩
  | a :: l => f a >>= fun _ => forL f l

/-- The running sum a device stores: its partial product plus what arrived. -/
abbrev sumOf (vx : Vec F S64x512 .f32) (vw : Vec F S512x2048 .f32) (vr : Vec F S1x64x2048 .f32) :
    FVec F S1x64x2048 .f32 :=
  k0_pay5 (k0_pay4 vx vw) vr

/-- The rows a device finishes: the activation of its partial product plus what arrived. -/
abbrev actOf (vx : Vec F S64x512 .f32) (vw : Vec F S512x2048 .f32) (vr : Vec F S1x64x2048 .f32) :
    FVec F S64x2048 .f32 :=
  k0_pay46 vx vw vr

/-- The start of the transfer of a running sum for hop `h`. -/
abbrev rsSend (A : Args) (c : Dev nD) (h : Fin 3) (s : Fin 4) (d : Bool) : Prog (Eff F) PUnit :=
  Prog.lift (.enqueueDma (segAt (A.acc d) h s)
    (.remote (Dev.tc (toDev d c)) (segAt (A.rcv d) h s) (.dma (semAt (A.rsS d) h s).sem))
    (.dma (semAt (A.rsR d) h s).sem) ((View.wordExact_bits rfl).reshape _ _) ((View.wordExact_bits rfl).reshape _ _)
    ⟨⟨rfl, Or.inl rfl⟩, trivial⟩)

/-- The start of the transfer of finished rows for gather hop `g`. -/
abbrev agSend (A : Args) (c : Dev nD) (g : Fin 3) (s : Fin 4) (d : Bool) : Prog (Eff F) PUnit :=
  Prog.lift (.enqueueDma (agAt A.out d c g s)
    (.remote (Dev.tc (toDev d c)) (agAt A.out d c g s) (.dma (semAt (A.agS d) g s).sem))
    (.dma (semAt (A.agR d) g s).sem) (View.wordExact_bits rfl) (View.wordExact_bits rfl)
    ⟨⟨rfl, Or.inl rfl⟩, trivial⟩)

/-- The wait for the running sum arriving at hop `h`. -/
abbrev rsWait (A : Args) (h : Fin 3) (s : Fin 4) (d : Bool) : Prog (Eff F) PUnit :=
  Prog.lift (.waitDma2 (semAt (A.rsR d) h s).sem (segAt (A.acc d) h s) (segAt (A.rcv d) h s)
    ((View.wordExact_bits rfl).reshape _ _) ((View.wordExact_bits rfl).reshape _ _))

/-- The first part: a device's own chunk, both halves, into slot 0 of the running sums. -/
def initBody (A : Args) (c : Dev nD) : Prog (Eff F) PUnit := do
  let v28 : Vec F S256x512 .f32 ← Prog.lift (.load A.x (ownXRect c false).toLoadRect (View.loadsAt_vmem h_S256x512))
  let v30 : Vec F S512x2048 .f32 ← Prog.lift (.load A.w wRect.toLoadRect (View.loadsAt_vmem h_S512x2048))
  let _v33 : Vec F S1x256x2048 .f32 ← Prog.lift (.load (A.acc false) slot0.toLoadRect (View.loadsAt_vmem h_S1x256x2048))
  Prog.lift (.store (A.acc false) slot0 (k0_pay3 v28 v30) Finset.univ (View.stores_vmem_bits_univ h_S1x256x2048 rfl) (.inl rfl))
  let v39 : Vec F S256x512 .f32 ← Prog.lift (.load A.x (ownXRect c true).toLoadRect (View.loadsAt_vmem h_S256x512))
  let v41 : Vec F S512x2048 .f32 ← Prog.lift (.load A.w wRect.toLoadRect (View.loadsAt_vmem h_S512x2048))
  let _v44 : Vec F S1x256x2048 .f32 ← Prog.lift (.load (A.acc true) slot0.toLoadRect (View.loadsAt_vmem h_S1x256x2048))
  Prog.lift (.store (A.acc true) slot0 (k0_pay3 v39 v41) Finset.univ (View.stores_vmem_bits_univ h_S1x256x2048 rfl) (.inl rfl))

/-- The barrier semaphore. -/
abbrev barSems : Sems sig S_ := SemArray.scalar (sig.barrier 0 rfl)

/-- The handshake: a signal to each neighbour, and the wait for theirs. -/
def barBody (c : Dev nD) : Prog (Eff F) PUnit := do
  semSignalWord (toDev true c) barSems.sem 1#32
  semSignalWord (toDev false c) barSems.sem 1#32
  semWaitWord barSems.sem 2#32

/-- One step of a reduce hop before the last: the sum of the partial product and what arrived, stored
    and sent on. -/
def rsStep (A : Args) (c : Dev nD) (x : Fin 2 × Fin 4 × Bool) : Prog (Eff F) PUnit := do
  let vx : Vec F S64x512 .f32 ← Prog.lift (.load A.x (xRect x.2.2 c x.1.castSucc x.2.1).toLoadRect (View.loadsAt_vmem h_S64x512))
  let vw : Vec F S512x2048 .f32 ← Prog.lift (.load A.w wRect.toLoadRect (View.loadsAt_vmem h_S512x2048))
  rsWait A x.1.castSucc x.2.1 x.2.2
  let vr : Vec F S1x64x2048 .f32 ← Prog.lift (.load (A.rcv x.2.2) (segRect x.1.castSucc x.2.1).toLoadRect (View.loadsAt_vmem h_S1x64x2048))
  let _va : Vec F S1x64x2048 .f32 ← Prog.lift (.load (A.acc x.2.2) (segRect x.1.succ x.2.1).toLoadRect (View.loadsAt_vmem h_S1x64x2048))
  Prog.lift (.store (A.acc x.2.2) (segRect x.1.succ x.2.1) (sumOf vx vw vr) Finset.univ (View.stores_vmem_bits_univ h_S1x64x2048 rfl) (.inl rfl))
  rsSend A c x.1.succ x.2.1 x.2.2

/-- One step of the last reduce hop: the finished rows, stored into the result and sent on. -/
def lastStep (A : Args) (c : Dev nD) (x : Fin 4 × Bool) : Prog (Eff F) PUnit := do
  let vx : Vec F S64x512 .f32 ← Prog.lift (.load A.x (xRect x.2 c 2 x.1).toLoadRect (View.loadsAt_vmem h_S64x512))
  let vw : Vec F S512x2048 .f32 ← Prog.lift (.load A.w wRect.toLoadRect (View.loadsAt_vmem h_S512x2048))
  rsWait A 2 x.1 x.2
  let vr : Vec F S1x64x2048 .f32 ← Prog.lift (.load (A.rcv x.2) (segRect 2 x.1).toLoadRect (View.loadsAt_vmem h_S1x64x2048))
  let _vo : Vec F S64x2048 .f32 ← Prog.lift (.load A.out (ownRect x.2 c x.1).toLoadRect (View.loadsAt_vmem h_S64x2048))
  Prog.lift (.store A.out (ownRect x.2 c x.1) (actOf vx vw vr) Finset.univ (View.stores_vmem_bits_univ h_S64x2048 rfl) (.inl rfl))
  agSend A c 0 x.1 x.2

/-- The wait for the finished rows arriving at gather hop `g`. -/
abbrev agWait (A : Args) (c : Dev nD) (g : Fin 3) (s : Fin 4) (d : Bool) : Prog (Eff F) PUnit :=
  Prog.lift (.waitDma2 (semAt (A.agR d) g s).sem (agAt A.out d c g s) (agAt A.out d c g s)
    (View.wordExact_bits rfl) (View.wordExact_bits rfl))

/-- One step of a gather hop before the last: what arrived is sent on. -/
def agStep (A : Args) (c : Dev nD) (x : Fin 2 × Fin 4 × Bool) : Prog (Eff F) PUnit := do
  agWait A c x.1.castSucc x.2.1 x.2.2
  agSend A c x.1.succ x.2.1 x.2.2

/-- One step of the closing loop: both outgoing transfers of hop `h` have been read. -/
def doneStep (A : Args) (c : Dev nD) (x : Fin 3 × Fin 4 × Bool) : Prog (Eff F) PUnit := do
  Prog.lift (.waitDma2 (semAt (A.rsS x.2.2) x.1 x.2.1).sem (segAt (A.rcv x.2.2) x.1 x.2.1) (segAt (A.acc x.2.2) x.1 x.2.1)
    ((View.wordExact_bits rfl).reshape _ _) ((View.wordExact_bits rfl).reshape _ _))
  Prog.lift (.waitDma2 (semAt (A.agS x.2.2) x.1 x.2.1).sem (agAt A.out x.2.2 c x.1 x.2.1) (agAt A.out x.2.2 c x.1 x.2.1)
    (View.wordExact_bits rfl) (View.wordExact_bits rfl))

/-- The segments and directions in the order the kernel takes them. -/
abbrev sds : List (Fin 4 × Bool) :=
  [(0, false), (0, true), (1, false), (1, true), (2, false), (2, true), (3, false), (3, true)]

/-- The hops before the last, each with every segment and direction. -/
abbrev hops2 : List (Fin 2 × Fin 4 × Bool) := sds.map (fun x => (0, x)) ++ sds.map (fun x => (1, x))

/-- All hops, each with every segment and direction. -/
abbrev hops3 : List (Fin 3 × Fin 4 × Bool) :=
  sds.map (fun x => (0, x)) ++ (sds.map (fun x => (1, x)) ++ sds.map (fun x => (2, x)))

/-- The kernel's body as its loops. -/
def loopBody (A : Args) : Prog (Eff F) PUnit := do
  let c : Dev nD ← Prog.lift .deviceId
  initBody A c
  barBody c
  forL (fun x => rsSend A c 0 x.1 x.2) sds
  forL (rsStep A c) hops2
  forL (lastStep A c) sds
  forL (agStep A c) hops2
  forL (fun x => agWait A c 2 x.1 x.2) sds
  forL (doneStep A c) hops3

/-- The printed body is the loops. -/
theorem cc0_body_eq (arg0 : Memref sig .tc .vmem S2048x512 .f32) (harg0 : arg0.IsWhole) (arg1 : Memref sig .tc .vmem S512x2048 .f32) (harg1 : arg1.IsWhole) (arg2 : Memref sig .tc .vmem S2048x2048 .f32) (harg2 : arg2.IsWhole) (arg3 : Memref sig .tc .vmem S3x256x2048 .f32) (harg3 : arg3.IsWhole) (arg4 : Memref sig .tc .vmem S3x256x2048 .f32) (harg4 : arg4.IsWhole) (arg5 : Memref sig .tc .vmem S3x256x2048 .f32) (harg5 : arg5.IsWhole) (arg6 : Memref sig .tc .vmem S3x256x2048 .f32) (harg6 : arg6.IsWhole)
    (arg7 arg8 arg9 arg10 arg11 arg12 arg13 arg14 : DmaSems sig S3x4) :
    cc0_body (F := F) arg0 harg0 arg1 harg1 arg2 harg2 arg3 harg3 arg4 harg4 arg5 harg5 arg6 harg6 arg7 arg8 arg9 arg10 arg11 arg12 arg13 arg14
      = loopBody ⟨arg0, arg1, arg2, fun d => cond d arg4 arg3, fun d => cond d arg6 arg5, fun d => cond d arg8 arg7,
          fun d => cond d arg10 arg9, fun d => cond d arg12 arg11, fun d => cond d arg14 arg13⟩ := by
  chain_rfl

end Cert.KernelIdeal.Ring

end
-- ==== Proof.KernelIdeal.Schedule.lean ====
/-
The protocol of the ring: the semaphore cells, who pays which cell and what each payment hands over, what a
device owes at the start, and the order the waits go in. The contents of every landing are stated from the
arrays as launched.
-/
module

public import proofs.«01_k».proof.Proof.KernelIdeal.Loops
public import Idealize.ShloMosaic.Lib.Pipeline.Launch
public import Idealize.ShloMosaic.Lib.Pipeline.Kit
public import Idealize.ShloMosaic.Lib.Tactic

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the ring's rounds: duties are named by `Bool`. -/
abbrev UB : Type := URounds (GSem nD τ sig) Bool
/-- The pipeline library's ghost state and the ring's, side by side. -/
abbrev UU : Type := UR sig nD τ × UB

local notation "𝕄" => MT nD τ sig Unit (Elt F) ℕ UU ℕ

/-- The pipeline library's part of the ghost state. -/
abbrev EP : Emb (UR sig nD τ) (MT nD τ sig Unit (Elt F) ℕ UU ℕ) := embL
/-- The ring's part of the ghost state. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The device after `c` on the ring. -/
def nxt (c : Dev nD) : Dev nD := ⟨(c.val + 1) % 4, Nat.mod_lt _ (by decide)⟩
/-- The device before `c` on the ring. -/
def prv (c : Dev nD) : Dev nD := ⟨(c.val + 3) % 4, Nat.mod_lt _ (by decide)⟩

/-- The device that direction `d` sends to. -/
def dn : Bool → Dev nD → Dev nD
  | false => nxt
  | true => prv
/-- The device that direction `d` receives from. -/
def up : Bool → Dev nD → Dev nD
  | false => prv
  | true => nxt

theorem dn_up (d : Bool) (c : Dev nD) : dn d (up d c) = c := by revert d c; decide
theorem up_dn (d : Bool) (c : Dev nD) : up d (dn d c) = c := by revert d c; decide
theorem toDev_eq (d : Bool) (c : Dev nD) : toDev d c = dn d c := by revert d c; decide

/-- Going one step in direction `d`, as a permutation of the devices. -/
def ring (d : Bool) : Dev nD ≃ Dev nD := ⟨dn d, up d, up_dn d, dn_up d⟩

/-! ## Memrefs and cells -/

/-- What the launch calls the body with. -/
abbrev A₀ : Args where
  x := Memref.whole cc0_stg0_0
  w := Memref.whole cc0_stg1_0
  out := Memref.whole cc0_stg2_0
  acc d := cond d (Memref.whole cc0_scratch1) (Memref.whole cc0_scratch0)
  rcv d := cond d (Memref.whole cc0_scratch3) (Memref.whole cc0_scratch2)
  rsS d := cond d cc0_scratch5 cc0_scratch4
  rsR d := cond d cc0_scratch7 cc0_scratch6
  agS d := cond d cc0_scratch9 cc0_scratch8
  agR d := cond d cc0_scratch11 cc0_scratch10

/-- A segment of a chunk and a direction. -/
abbrev Lane : Type := Fin 4 × Bool

/-- A transfer semaphore: which of the four arrays of a direction (0 the send side of the reduce, 1 its
    receive side, 2 the send side of the gather, 3 its receive side), the hop, the segment and the
    direction. -/
abbrev X : Type := Fin 4 × Fin 3 × Lane

/-- The array of semaphores. -/
abbrev semArr (k : Fin 4) (d : Bool) : DmaSems sig S3x4 :=
  match k with
  | 0 => A₀.rsS d
  | 1 => A₀.rsR d
  | 2 => A₀.agS d
  | 3 => A₀.agR d

/-- The semaphore. -/
abbrev xsem (x : X) : DmaSem sig := (semAt (semArr x.1 x.2.2.2) x.2.1 x.2.2.1).sem

/-- Which semaphore the number `n` is. -/
def dec (n : ℕ) : X :=
  (⟨(n - 3) / 24 % 4, Nat.mod_lt _ (by decide)⟩, ⟨(n - 3) % 12 / 4, by omega⟩,
    ⟨(n - 3) % 4, Nat.mod_lt _ (by decide)⟩, decide ((n - 3) / 12 % 2 = 1))

theorem xsem_val (x : X) :
    (xsem x).val = 3 + 24 * x.1.val + (cond x.2.2.2 12 0) + 4 * x.2.1.val + x.2.2.1.val := by
  revert x; decide

theorem dec_xsem (x : X) : dec (xsem x).val = x := by
  obtain ⟨k, h, s, d⟩ := x
  rw [xsem_val]
  revert k h s d; decide

theorem xsem_ge (x : X) : 3 ≤ (xsem x).val := by rw [xsem_val]; omega

theorem xsem_injective : Function.Injective xsem := fun x y h => by
  rw [← dec_xsem x, ← dec_xsem y, h]

/-- The barrier semaphore. -/
abbrev barS : Sem sig := barSems.sem

/-- The semaphores of the protocol: the barrier, or a transfer's. -/
abbrev csem : Option X → SemLoc sig
  | none => .reg barS
  | some x => .dma (xsem x)

/-- The cell of device `c`. -/
abbrev cell (c : Dev nD) (k : Option X) : GSem nD τ sig := ((c : Thread nD τ), csem k)

/-- The credit of one transfer. -/
abbrev N : ℕ := (segAt (A₀.acc false) 0 0).view.dmaCredit
theorem N_pos : 0 < N := View.dmaCredit_pos _ (by decide)

theorem N_acc (d : Bool) (h : Fin 3) (s : Fin 4) : (segAt (A₀.acc d) h s).view.dmaCredit = N := by cases d <;> rfl
theorem N_rcv (d : Bool) (h : Fin 3) (s : Fin 4) : (segAt (A₀.rcv d) h s).view.dmaCredit = N := by cases d <;> rfl
theorem N_out (d : Bool) (c : Dev nD) (g : Fin 3) (s : Fin 4) : (agAt A₀.out d c g s).view.dmaCredit = N := rfl

/-! ## Contents -/

/-- Device `c`'s block of `x` as fetched. -/
def xstg (c : Dev nD) : (cc0_stg0_0 : Ref sig .tc).ty.Contents (Elt F) :=
  (win0_0.blk (0 : Fin 1)).view.read (Elt F) (m ((c : Thread nD τ).loc main_arg0))
/-- Device `c`'s block of `w` as fetched. -/
def wstg (c : Dev nD) : (cc0_stg1_0 : Ref sig .tc).ty.Contents (Elt F) :=
  (win0_1.blk (0 : Fin 1)).view.read (Elt F) (m ((c : Thread nD τ).loc main_arg1))

/-- The rows of `x` that device `c` multiplies at hop `h`. -/
def xv (d : Bool) (c : Dev nD) (h : Fin 3) (s : Fin 4) : Vec F S64x512 .f32 :=
  A₀.x.view.readAt (Elt F) (xRect d c h s).toLoadRect (xstg m c)
/-- Device `c`'s block of `w` as loaded. -/
def wv (c : Dev nD) : Vec F S512x2048 .f32 := A₀.w.view.readAt (Elt F) wRect.toLoadRect (wstg m c)
/-- The half chunk of its own that device `c` starts direction `d` with. -/
def ov (d : Bool) (c : Dev nD) : Vec F S256x512 .f32 :=
  match d with
  | false => A₀.x.view.readAt (Elt F) (ownXRect c false).toLoadRect (xstg m c)
  | true => A₀.x.view.readAt (Elt F) (ownXRect c true).toLoadRect (xstg m c)

/-- Segment `s` of a slot, inside the slot. -/
def segIx (s : Fin 4) (i : S1x64x2048.Idx) : S1x256x2048.Idx := fun
  | 0 => ⟨0, by decide⟩
  | 1 => ⟨64 * s.val + (i 1).val, by have h1 : (i 1).val < 64 := (i 1).isLt; have := s.isLt; show _ < 256; omega⟩
  | 2 => ⟨(i 2).val, (i 2).isLt⟩

/-- The running sum that device `c` sends at hop `h`, segment `s`. -/
def accV (d : Bool) (h : Fin 3) : Dev nD → Fin 4 → Vec F S1x64x2048 .f32 :=
  Fin.induction (n := 2) (motive := fun _ => Dev nD → Fin 4 → Vec F S1x64x2048 .f32)
    (fun c s i => k0_pay3 (ov m d c) (wv m c) (segIx s i))
    (fun h prev c s => sumOf (xv m d c h.castSucc s) (wv m c) (prev (up d c) s)) h

/-- The rows that device `c` finishes. -/
def finV (d : Bool) (c : Dev nD) (s : Fin 4) : Vec F S64x2048 .f32 :=
  actOf (xv m d c 2 s) (wv m c) (accV m d 2 (up d c) s)

/-- The finished rows that device `c` sends at gather hop `g`. -/
def agV (d : Bool) (g : Fin 3) : Dev nD → Fin 4 → Vec F S64x2048 .f32 :=
  Fin.induction (n := 2) (motive := fun _ => Dev nD → Fin 4 → Vec F S64x2048 .f32)
    (finV m d) (fun _ prev c s => prev (up d c) s) g

theorem accV_zero (d : Bool) (c : Dev nD) (s : Fin 4) :
    accV m d 0 c s = fun i => k0_pay3 (ov m d c) (wv m c) (segIx s i) := rfl
theorem accV_succ (d : Bool) (h : Fin 2) (c : Dev nD) (s : Fin 4) :
    accV m d h.succ c s = sumOf (xv m d c h.castSucc s) (wv m c) (accV m d h.castSucc (up d c) s) := by
  unfold accV; rw [Fin.induction_succ]
theorem agV_zero (d : Bool) (c : Dev nD) (s : Fin 4) : agV m d 0 c s = finV m d c s := rfl
theorem agV_succ (d : Bool) (g : Fin 2) (c : Dev nD) (s : Fin 4) :
    agV m d g.succ c s = agV m d g.castSucc (up d c) s := by
  unfold agV; rw [Fin.induction_succ]

/-! ## Pieces of the buffers -/

/-- A segment of a buffer of three slots, before it is squeezed to rows. -/
abbrev sl (b : Memref sig .tc .vmem S3x256x2048 .f32) (h : Fin 3) (s : Fin 4) : Memref sig .tc .vmem S1x64x2048 .f32 :=
  b.slice (segRect h s) (fun _ => rfl)

/-- Device `c` holds a segment of its running sums at contents `V`. -/
def accP (c : Dev nD) (d : Bool) (h : Fin 3) (s : Fin 4) (V : Vec F S1x64x2048 .f32) : sProp 𝕄 :=
  owns (Ix := Unit) (Name := ℕ) (U := UU) (Lvl := ℕ) (c : Thread nD τ) (sl (A₀.acc d) h s) fullShare V
/-- Device `c` holds a segment of its landing buffer at contents `V`. -/
def rcvP (c : Dev nD) (d : Bool) (h : Fin 3) (s : Fin 4) (V : Vec F S1x64x2048 .f32) : sProp 𝕄 :=
  owns (Ix := Unit) (Name := ℕ) (U := UU) (Lvl := ℕ) (c : Thread nD τ) (sl (A₀.rcv d) h s) fullShare V
/-- Device `c` holds the rows of its result that device `b` sends at gather hop `g`, at contents `V`. -/
def outP (c : Dev nD) (d : Bool) (b : Dev nD) (g : Fin 3) (s : Fin 4) (V : Vec F S64x2048 .f32) : sProp 𝕄 :=
  owns (Ix := Unit) (Name := ℕ) (U := UU) (Lvl := ℕ) (c : Thread nD τ) (agAt A₀.out d b g s) fullShare V

omit [FloatOps F] in
instance accP_storable (c : Dev nD) (d h s V) : BI.Storable (upEmb : UEmb _ 𝕄) (accP (F := F) c d h s V) := by
  unfold accP; infer_instance
omit [FloatOps F] in
instance rcvP_storable (c : Dev nD) (d h s V) : BI.Storable (upEmb : UEmb _ 𝕄) (rcvP (F := F) c d h s V) := by
  unfold rcvP; infer_instance
omit [FloatOps F] in
instance outP_storable (c : Dev nD) (d b g s V) : BI.Storable (upEmb : UEmb _ 𝕄) (outP (F := F) c d b g s V) := by
  unfold outP; infer_instance

/-! ## The schedule -/

/-- What duty `d` of device `c`'s barrier cell hands over: everything on the device that `c` sends to in
    direction `d` that those transfers land in. -/
def barPay (c : Dev nD) (d : Bool) : sProp 𝕄 :=
  iprop((bigSep Finset.univ fun h : Fin 3 => bigSep Finset.univ fun s : Fin 4 => iprop(∃ V, rcvP (F := F) (dn d c) d h s V))
    ∗ (bigSep Finset.univ fun g : Fin 3 => bigSep Finset.univ fun s : Fin 4 => iprop(∃ V, outP (F := F) (dn d c) d c g s V)))

/-- What a landing, or the end of a transfer's reading, hands the device that waits for it. -/
def xPay (c : Dev nD) (x : X) : sProp 𝕄 :=
  if x.1 = 0 then accP c x.2.2.2 x.2.1 x.2.2.1 (accV m x.2.2.2 x.2.1 c x.2.2.1)
  else if x.1 = 1 then rcvP c x.2.2.2 x.2.1 x.2.2.1 (accV m x.2.2.2 x.2.1 (up x.2.2.2 c) x.2.2.1)
  else if x.1 = 2 then outP c x.2.2.2 c x.2.1 x.2.2.1 (agV m x.2.2.2 x.2.1 c x.2.2.1)
  else outP c x.2.2.2 (up x.2.2.2 c) x.2.1 x.2.2.1 (agV m x.2.2.2 x.2.1 (up x.2.2.2 c) x.2.2.1)

/-- The schedule. One round: a barrier cell has one duty per direction, of one unit; a transfer cell one
    duty, of the transfer's credit. -/
def Rd : Rounds.Schedule (GSem nD τ sig) Bool 𝕄 where
  duties g r := if r = 0 ∧ g.1.2 = .tc then
      (match g.2 with
        | .reg s => if s = barS then Finset.univ else ∅
        | .dma q => if 3 ≤ q.val then {false} else ∅)
    else ∅
  unitless _ := False
  amount g _ _ := match g.2 with
    | .reg _ => 1
    | .dma _ => N
  payload g _ d := match g.2 with
    | .reg _ => barPay g.1.1 d
    | .dma q => xPay m g.1.1 (dec q.val)
  amount_pos g _ _ _ := by
    cases g.2
    · exact Nat.one_pos
    · exact N_pos

omit [FloatOps F] in
instance barPay_storable (c : Dev nD) (d : Bool) : BI.Storable (upEmb : UEmb _ 𝕄) (barPay (F := F) c d) := by
  unfold barPay; infer_instance

instance xPay_storable (c : Dev nD) (x : X) : BI.Storable (upEmb : UEmb _ 𝕄) (xPay m c x) := by
  unfold xPay; (repeat' split) <;> infer_instance

instance Rd_payload_storable (g : GSem nD τ sig) (r : ℕ) (d : Bool) :
    BI.Storable (upEmb : UEmb _ 𝕄) ((Rd m).payload g r d) := by
  obtain ⟨t, sm⟩ := g
  cases sm with
  | reg s => exact barPay_storable _ _
  | dma q => exact xPay_storable m _ _

section Sched
variable (c : Dev nD)

theorem duties_bar : (Rd m).duties (cell c none) 0 = Finset.univ := by
  dsimp only [Rd]; rw [if_pos ⟨rfl, rfl⟩]; exact if_pos rfl
theorem duties_x (x : X) : (Rd m).duties (cell c (some x)) 0 = {false} := by
  dsimp only [Rd]; rw [if_pos ⟨rfl, rfl⟩]; exact if_pos (xsem_ge x)
theorem duties_later (g : GSem nD τ sig) : ∀ r, 1 ≤ r → (Rd m).duties g r = ∅ :=
  fun r hr => by dsimp only [Rd]; rw [if_neg fun h => by omega]

theorem amount_bar (d : Bool) : (Rd m).amount (cell c none) 0 d = 1 := rfl
theorem amount_x (x : X) (d : Bool) : (Rd m).amount (cell c (some x)) 0 d = N := rfl

theorem expect_bar : (Rd m).expect (cell c none) 0 = 2 := by
  unfold Schedule.expect Schedule.amountOf
  rw [duties_bar, Finset.sum_congr rfl fun d _ => amount_bar m c d, Finset.sum_const, Finset.card_univ, Fintype.card_bool, smul_eq_mul]
theorem expect_x (x : X) : (Rd m).expect (cell c (some x)) 0 = N := by
  unfold Schedule.expect Schedule.amountOf; rw [duties_x, Finset.sum_singleton, amount_x]

theorem payload_bar (d : Bool) : (Rd m).payload (cell c none) 0 d = barPay c d := rfl
theorem payload_x (x : X) (d : Bool) : (Rd m).payload (cell c (some x)) 0 d = xPay m c x := by
  show xPay m c (dec (xsem x).val) = _; rw [dec_xsem]

/-- The whole of the barrier cell's round: both neighbours' payments. -/
theorem rest_bar : bigSep ((Rd m).duties (cell c none) 0 \ ∅) (fun d => (Rd m).payload (cell c none) 0 d)
    = iprop(barPay (F := F) c false ∗ barPay (F := F) c true) := by
  rw [Finset.sdiff_empty, duties_bar, bigSep_univ_eq_bigSepL [false, true] (by decide) (by decide), bigSepL_cons_cons, bigSepL_singleton]
  rfl
/-- The whole of a transfer cell's round. -/
theorem rest_x (x : X) : bigSep ((Rd m).duties (cell c (some x)) 0 \ ∅) (fun d => (Rd m).payload (cell c (some x)) 0 d) = xPay m c x := by
  rw [Finset.sdiff_empty, duties_x, bigSep_singleton, payload_x]

end Sched

/-! ## What a device owes, and the levels -/

/-- A receive cell: of the reduce (`false`) or of the gather (`true`). -/
abbrev Rx : Type := Bool × Fin 3 × Lane
/-- As a transfer semaphore. -/
abbrev rx (r : Rx) : X := (cond r.1 3 1, r.2.1, r.2.2)
/-- The cell of its neighbour that device `c` credits. -/
abbrev owedCell (c : Dev nD) (r : Rx) : GSem nD τ sig := cell (dn r.2.2.2 c) (some (rx r))

/-- What device `c` owes while the transfers of a list are still to be started, the first of the list the
    last summand. -/
def owedL (c : Dev nD) : List Rx → CellTallies nD τ sig Unit
  | [] => 0
  | r :: l => owedL c l + tallyAt (owedCell c r) () N

/-- The transfers in program order. -/
abbrev allRx : List Rx :=
  sds.map (fun x => (false, 0, x)) ++ (sds.map (fun x => (false, 1, x)) ++ (sds.map (fun x => (false, 2, x))
    ++ (sds.map (fun x => (true, 0, x)) ++ (sds.map (fun x => (true, 1, x)) ++ (sds.map (fun x => (true, 2, x)) ++ [])))))

/-- What device `c` owes at launch: both neighbours' barrier cells and every transfer. -/
def O₀ (c : Dev nD) : CellTallies nD τ sig Unit :=
  owedL c allRx + tallyAt (cell (up true c) none) () 1 + tallyAt (cell (up false c) none) () 1

/-- Which tags a cell may be waited for under. -/
def L (g : GSem nD τ sig) : Finset Unit := if g.1.2 = .tc then {()} else ∅

/-- The level of a transfer semaphore: its receive sides in the order of the hops, everything else 0. -/
def xlv (x : X) : ℕ := if x.1 = 1 then 2 + x.2.1.val else if x.1 = 3 then 5 + x.2.1.val else 0

/-- The levels: staging and send sides 0, the barrier 1, then the receive sides in the order of the hops. -/
def lv (g : GSem nD τ sig) (_ : Unit) : ℕ := match g.2 with
  | .reg _ => 1
  | .dma q => if 3 ≤ q.val then xlv (dec q.val) else 0

theorem L_of_ne (g : GSem nD τ sig) (h : g.1.2 ≠ .tc) : L g = ∅ := if_neg h
theorem L_tc (c : Dev nD) (sm : SemLoc sig) : L ((c : Thread nD τ), sm) = {()} := if_pos rfl
theorem lv_x (c : Dev nD) (x : X) : lv (cell c (some x)) () = xlv x := by
  show (if 3 ≤ (xsem x).val then xlv (dec (xsem x).val) else 0) = _
  rw [if_pos (xsem_ge x), dec_xsem]

/-- What is owed under a list is owed to the list's cells. -/
theorem owedL_pos {c : Dev nD} {g : GSem nD τ sig} {u : Unit} : ∀ {l : List Rx}, 0 < owedL c l g u → ∃ r ∈ l, g = owedCell c r
  | [], h => absurd h (Nat.lt_irrefl 0)
  | r :: l, h => by
    unfold owedL at h
    rw [Pi.add_apply, Finsupp.add_apply, tallyAt_apply] at h
    by_cases hg : g = owedCell c r ∧ u = ()
    · exact ⟨r, List.mem_cons_self, hg.1⟩
    · rw [if_neg hg, Nat.add_zero] at h
      obtain ⟨r', hr', e⟩ := owedL_pos h
      exact ⟨r', List.mem_cons_of_mem _ hr', e⟩

/-- A wait at a level below every transfer of the list is admitted while the list is owed. -/
theorem mayWait_owedL (c : Dev nD) (sm : SemLoc sig) (l : List Rx) (n : ℕ) (hn : lv ((c : Thread nD τ), sm) () ≤ n)
    (hl : ∀ r ∈ l, n < xlv (rx r)) :
    (levAts L lv : sProp 𝕄) ⊢ MayWait (c : Thread nD τ) sm () (owedL c l) :=
  MayOwe.of_cut (L := L) (lev := lv) n (fun p hp => by rw [Finset.mem_singleton.mp hp, L_tc]; exact Finset.mem_singleton_self _)
    (fun g u hg => by obtain ⟨r, -, rfl⟩ := owedL_pos hg; rw [L_tc]; exact Finset.mem_singleton_self _)
    (fun p hp => by rw [Finset.mem_singleton.mp hp]; exact hn)
    (fun g u hg => by obtain ⟨r, hr, rfl⟩ := owedL_pos hg; rw [lv_x]; exact hl r hr)

theorem O₀_pos {c : Dev nD} {g : GSem nD τ sig} {u : Unit} (h : 0 < O₀ c g u) :
    (∃ r ∈ allRx, g = owedCell c r) ∨ g = cell (up true c) none ∨ g = cell (up false c) none := by
  unfold O₀ at h
  rw [Pi.add_apply, Finsupp.add_apply, Pi.add_apply, Finsupp.add_apply, tallyAt_apply, tallyAt_apply] at h
  by_contra hn
  rw [not_or, not_or] at hn
  rw [if_neg (fun h' => hn.2.1 h'.1), if_neg (fun h' => hn.2.2 h'.1), Nat.add_zero] at h
  exact hn.1 (owedL_pos h)

theorem allRx_lv : ∀ r ∈ allRx, 1 < xlv (rx r) := by decide

/-- A wait at level 0 is admitted from the launch on. -/
theorem mayWait_low (c : Dev nD) (sm : SemLoc sig) (hn : lv ((c : Thread nD τ), sm) () = 0) (O : CellTallies nD τ sig Unit)
    (hO : O = O₀ c ∨ O = 0) :
    (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨r, -, rfl⟩ | rfl | rfl <;> exact Finset.mem_singleton_self _)
      (fun p hp => by rw [Finset.mem_singleton.mp hp]; exact hn.le)
      (fun g u hg => by
        rcases O₀_pos hg with ⟨r, hr, rfl⟩ | rfl | rfl
        · rw [lv_x]; exact Nat.lt_of_lt_of_le Nat.zero_lt_one (Nat.le_of_lt (allRx_lv r hr))
        · exact Nat.one_pos
        · exact Nat.one_pos)
  · rw [MayWait_zero]; iintro -; iempintro

end Cert.KernelIdeal.Ring

end
-- ==== Proof.KernelIdeal.Steps.lean ====
/-
The rules of the ring's transfers: starting a transfer of running sums or of finished rows, and waiting for a
transfer's cell. Each is stated at a symbolic device, hop, segment and direction.
-/
module

public import proofs.«01_k».proof.Proof.KernelIdeal.Schedule

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Option X → ℕ)

/-- No label's variant is used. -/
abbrev 𝒱₀ : Variants := Variants.none

/-- The weakest precondition of a part of device `c`'s body. -/
abbrev WP (c : Dev nD) {α : Type} (p : Prog (Eff F) α) (Q : α → sProp 𝕄) : sProp 𝕄 :=
  wp frame (wpE (defs₀ (F := F)) 𝒱₀ (c : Thread nD τ) none) Set.univ p Q

/-- Every cell's invariant, and that every cell has reached its round. -/
def records : sProp 𝕄 :=
  bigSep Finset.univ fun ck : Dev nD × Option X =>
    iprop(cellInv ER (Rd m) (K ck) (cell ck.1 ck.2) ∗ reached ER (cell ck.1 ck.2) 0)

instance records_persistent : BI.Persistent (records m K) := by unfold records; infer_instance

/-- One cell's invariant out of all. -/
theorem records_at (c : Dev nD) (k : Option X) :
    records m K ⊢ iprop(cellInv ER (Rd m) (K (c, k)) (cell c k) ∗ reached ER (cell c k) 0) := by
  unfold records
  rw [bigSep_univ_at _ (c, k)]
  iintro ⟨H, -⟩; iexact H

/-- What device `c` owes, whatever waits it has made. -/
def owesE (c : Dev nD) (O : CellTallies nD τ sig Unit) : sProp 𝕄 := iprop(∃ W, owes (c : Thread nD τ) O W)

/-- What waiting on a cell of its own takes. -/
abbrev waitOn (c : Dev nD) (x : X) : sProp 𝕄 :=
  iprop(atPos ER (cell c (some x)) 0 ∅ 0 ∗ cred (tallyAt (cell c (some x)) () N))

/-- The wait for a transfer's cell: what it hands over, and its counter, at zero for good. -/
theorem wp_xwait (c : Dev nD) (x : X) {w : Eff F PUnit}
    (hw : ∀ K' : PUnit → sProp 𝕄, wpE (defs₀ (F := F)) 𝒱₀ (c : Thread nD τ) none Set.univ w K'
      = waitSpec (c : Thread nD τ) Set.univ (.dma (xsem x)) N K')
    (l : List Rx) (n : ℕ) (hn : xlv x ≤ n) (hl : ∀ r ∈ l, n < xlv (rx r))
    {α : Type} {k : PUnit → Prog (Eff F) α} {Q : α → sProp 𝕄} :
    iprop(records m K ∗ levAts L lv ∗ waitOn c x ∗ owesE c (owedL c l))
      ⊢ iprop(((owesE c (owedL c l) ∗ semVal (cell c (some x)) 0 ∗ xPay m c x) -∗ WP c (k ⟨⟩) Q) -∗ WP c (.op w k) Q) := by
  unfold waitOn owesE
  iintro ⟨#HR, #Hlev, ⟨Hat, Hc⟩, %W, HO⟩ Hk
  ihave HI := (records_at m K c (some x)) $$ HR
  icases HI with ⟨#HI, -⟩
  iapply (Rounds.wp_wait_rest_token 𝒱₀ ER (Rd m) (c : Thread nD τ) none (κ := K (c, some x))
      hw (Set.mem_univ _) () (O := owedL c l) (W := W) (R := 0) (m := 0) (T := ∅)
      (by rw [Nat.zero_add]; exact (expect_x m c x).symm)) $$ [Hc HO Hat]
  · isplitr; · iexact HI
    isplitl [Hc]; · iexact Hc
    isplitl [HO]; · iexact HO
    isplitr; · iapply (mayWait_owedL c (.dma (xsem x)) l n (by rw [show lv ((c : Thread nD τ), SemLoc.dma (xsem x)) () = xlv x from lv_x c x]; exact hn) hl); iexact Hlev
    iexact Hat
  iintro ⟨HO, Hat, -, Hpay⟩
  ihave Hp := (Entails.of_eq (rest_x m c x)) $$ Hpay
  imod (Rounds.cell_close ER (Rd m) (Set.mem_univ (K (c, some x))) (fun h => h) (R := 0 + 1) (duties_later m (cell c (some x)))) $$ [Hat] with Hz
  · isplitr; · iexact HI
    iexact Hat
  iapply Hk
  isplitl [HO]; · iexists _; iexact HO
  isplitl [Hz]; · iexact Hz
  iexact Hp

/-- What starting the transfer of a running sum takes: the two duties it pays and the place it lands in. -/
def sendRs (c : Dev nD) (h : Fin 3) (y : Lane) : sProp 𝕄 :=
  iprop(dutyTok ER (cell c (some (0, h, y))) 0 false ∗ dutyTok ER (cell (dn y.2 c) (some (1, h, y))) 0 false
    ∗ ∃ V, rcvP (F := F) (dn y.2 c) y.2 h y.1 V)

/-- What starting the transfer of finished rows takes. -/
def sendAg (c : Dev nD) (g : Fin 3) (y : Lane) : sProp 𝕄 :=
  iprop(dutyTok ER (cell c (some (2, g, y))) 0 false ∗ dutyTok ER (cell (dn y.2 c) (some (3, g, y))) 0 false
    ∗ ∃ V, outP (F := F) (dn y.2 c) y.2 c g y.1 V)

/-- Starting the transfer of a running sum, addressed to any device equal to the neighbour. -/
theorem wp_rsSend_to (c n : Dev nD) (h : Fin 3) (y : Lane) (hn : n = dn y.2 c) (l : List Rx)
    {hsc : (segAt (A₀.rcv y.2) h y.1).view.ref.isScScratch = false}
    {hsrc : (segAt (A₀.acc y.2) h y.1).view.WordExact} {hdst : (segAt (A₀.rcv y.2) h y.1).view.WordExact}
    {hsem : DmaTarget.Typed .vmem (.dma (xsem (1, h, y))) (.remote (Dev.tc n : Thread nD τ) (segAt (A₀.rcv y.2) h y.1) (.dma (xsem (0, h, y))) hsc)}
    {α : Type} {k : PUnit → Prog (Eff F) α} {Q : α → sProp 𝕄} :
    iprop(records m K ∗ accP c y.2 h y.1 (accV m y.2 h c y.1) ∗ sendRs c h y ∗ owesE c (owedL c ((false, h, y) :: l)))
      ⊢ iprop(((cred (tallyAt (cell c (some (0, h, y))) () N) ∗ owesE c (owedL c l)) -∗ WP c (k ⟨⟩) Q)
        -∗ WP c (.op (.enqueueDma (segAt (A₀.acc y.2) h y.1) (.remote (Dev.tc n : Thread nD τ) (segAt (A₀.rcv y.2) h y.1) (.dma (xsem (0, h, y))) hsc)
            (.dma (xsem (1, h, y))) hsrc hdst hsem) k) Q) := by
  subst hn
  unfold sendRs owesE accP rcvP owns
  iintro ⟨#HR, ⟨%fs, %hfs, Hs⟩, ⟨Ht0, Ht1, %V, %fd, %hfd, Hd⟩, %W, HO⟩ Hk
  ihave HI := (records_at m K c (some (0, h, y))) $$ HR
  icases HI with ⟨#HI0, #Hr0⟩
  ihave HI := (records_at m K (dn y.2 c) (some (1, h, y))) $$ HR
  icases HI with ⟨#HI1, #Hr1⟩
  iapply (Rounds.wp_send_pointsTo 𝒱₀ ER (Rd m) (c : Thread nD τ) none (c' := (Dev.tc (dn y.2 c) : Thread nD τ)) (src := segAt (A₀.acc y.2) h y.1) (dst := segAt (A₀.rcv y.2) h y.1) (sS := .dma (xsem (0, h, y))) (sem := .dma (xsem (1, h, y))) (κ₁ := K (c, some (0, h, y))) (κ₂ := K (dn y.2 c, some (1, h, y)))
    (r₁ := 0) (r₂ := 0) (d₁ := false) (d₂ := false) (fs := fs) (fd := fd) (q := fullShare)
    (by rw [duties_x]; exact Finset.mem_singleton_self _) (by rw [duties_x]; exact Finset.mem_singleton_self _)
    () () N (N_rcv y.2 h y.1) (amount_x m c (0, h, y) false) (amount_x m (dn y.2 c) (1, h, y) false) (owedL c l) rfl (W := W)
    (by
      rw [payload_x]
      show _ ⊢ accP c y.2 h y.1 (accV m y.2 h c y.1)
      unfold accP owns
      iintro H
      iexists fs
      isplitr; · ipureintro; exact hfs
      rw [View.set_reshape]; iexact H)
    (by
      rw [payload_x]
      show _ ⊢ rcvP (dn y.2 c) y.2 h y.1 (accV m y.2 h (up y.2 (dn y.2 c)) y.1)
      rw [up_dn]
      unfold rcvP owns
      iintro H
      iexists _
      isplitr; rotate_left
      · rw [View.set_reshape]; iexact H
      · ipureintro
        rw [View.write_reshape_univ, View.read_write_univ, ← hfs]
        funext i
        rw [View.read_apply, View.read_apply, View.emb_reshape]
        simp)) $$ [Hs Hd HO Ht0 Ht1]
  · isplitr; · iexact HI0
    isplitr; · iexact HI1
    isplitl [Hs]; · rw [View.set_reshape]; iexact Hs
    isplitl [Hd]; · rw [View.set_reshape]; iexact Hd
    isplitl [HO]; · iexact HO
    isplitl [Ht0]; · iexact Ht0
    isplitr; · iexact Hr0
    isplitl [Ht1]; · iexact Ht1
    iexact Hr1
  iintro ⟨Hc, HO⟩
  iapply Hk
  isplitl [Hc]; · iexact Hc
  iexists _; iexact HO

/-- Starting the transfer of finished rows, addressed to any device equal to the neighbour. -/
theorem wp_agSend_to (c n : Dev nD) (g : Fin 3) (y : Lane) (hn : n = dn y.2 c) (l : List Rx)
    {hsc : (agAt A₀.out y.2 c g y.1).view.ref.isScScratch = false}
    {hsrc : (agAt A₀.out y.2 c g y.1).view.WordExact} {hdst : (agAt A₀.out y.2 c g y.1).view.WordExact}
    {hsem : DmaTarget.Typed .vmem (.dma (xsem (3, g, y))) (.remote (Dev.tc n : Thread nD τ) (agAt A₀.out y.2 c g y.1) (.dma (xsem (2, g, y))) hsc)}
    {α : Type} {k : PUnit → Prog (Eff F) α} {Q : α → sProp 𝕄} :
    iprop(records m K ∗ outP c y.2 c g y.1 (agV m y.2 g c y.1) ∗ sendAg c g y ∗ owesE c (owedL c ((true, g, y) :: l)))
      ⊢ iprop(((cred (tallyAt (cell c (some (2, g, y))) () N) ∗ owesE c (owedL c l)) -∗ WP c (k ⟨⟩) Q)
        -∗ WP c (.op (.enqueueDma (agAt A₀.out y.2 c g y.1) (.remote (Dev.tc n : Thread nD τ) (agAt A₀.out y.2 c g y.1) (.dma (xsem (2, g, y))) hsc)
            (.dma (xsem (3, g, y))) hsrc hdst hsem) k) Q) := by
  subst hn
  unfold sendAg owesE outP owns
  iintro ⟨#HR, ⟨%fs, %hfs, Hs⟩, ⟨Ht0, Ht1, %V, %fd, %hfd, Hd⟩, %W, HO⟩ Hk
  ihave HI := (records_at m K c (some (2, g, y))) $$ HR
  icases HI with ⟨#HI0, #Hr0⟩
  ihave HI := (records_at m K (dn y.2 c) (some (3, g, y))) $$ HR
  icases HI with ⟨#HI1, #Hr1⟩
  iapply (Rounds.wp_send_pointsTo 𝒱₀ ER (Rd m) (c : Thread nD τ) none (c' := (Dev.tc (dn y.2 c) : Thread nD τ)) (src := agAt A₀.out y.2 c g y.1) (dst := agAt A₀.out y.2 c g y.1) (sS := .dma (xsem (2, g, y))) (sem := .dma (xsem (3, g, y))) (κ₁ := K (c, some (2, g, y))) (κ₂ := K (dn y.2 c, some (3, g, y)))
    (r₁ := 0) (r₂ := 0) (d₁ := false) (d₂ := false) (fs := fs) (fd := fd) (q := fullShare)
    (by rw [duties_x]; exact Finset.mem_singleton_self _) (by rw [duties_x]; exact Finset.mem_singleton_self _)
    () () N (N_out y.2 c g y.1) (amount_x m c (2, g, y) false) (amount_x m (dn y.2 c) (3, g, y) false) (owedL c l) rfl (W := W)
    (by
      rw [payload_x]
      show _ ⊢ outP c y.2 c g y.1 (agV m y.2 g c y.1)
      unfold outP owns
      iintro H
      iexists fs
      isplitr; · ipureintro; exact hfs
      iexact H)
    (by
      rw [payload_x]
      show _ ⊢ outP (dn y.2 c) y.2 (up y.2 (dn y.2 c)) g y.1 (agV m y.2 g (up y.2 (dn y.2 c)) y.1)
      rw [up_dn]
      unfold outP owns
      iintro H
      iexists _
      isplitr; rotate_left
      · iexact H
      · ipureintro
        rw [View.read_write_univ, ← hfs])) $$ [Hs Hd HO Ht0 Ht1]
  · isplitr; · iexact HI0
    isplitr; · iexact HI1
    isplitl [Hs]; · iexact Hs
    isplitl [Hd]; · iexact Hd
    isplitl [HO]; · iexact HO
    isplitl [Ht0]; · iexact Ht0
    isplitr; · iexact Hr0
    isplitl [Ht1]; · iexact Ht1
    iexact Hr1
  iintro ⟨Hc, HO⟩
  iapply Hk
  isplitl [Hc]; · iexact Hc
  iexists _; iexact HO

end Cert.KernelIdeal.Ring

end
-- ==== Proof.KernelIdeal.Hops.lean ====
/-
The ring's loops: one step of each at a symbolic device, hop, segment and direction, and the rule that runs a
loop whose steps each keep what they share and turn their own resources into their results.
-/
module

public import proofs.«01_k».proof.Proof.KernelIdeal.Steps
public import Idealize.ShloMosaic.Lib.Pipeline.BigSepL

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Option X → ℕ)

/-! ## Loads and stores of pieces -/

/-- A load of a piece that the device holds. -/
theorem wp_loadP (c : Dev nD) {s : Shape} {b : Memref sig .tc .vmem s .f32} {r : Rect s} {p : ∀ a, r.stride a = 1}
    {hl : b.view.LoadsAt r.toLoadRect} {V : Vec F r.shape .f32}
    {α : Type} {k : Vec F r.shape .f32 → Prog (Eff F) α} {Q : α → sProp 𝕄} :
    owns (Ix := Unit) (Name := ℕ) (U := UU) (Lvl := ℕ) (c : Thread nD τ) (b.slice r p) fullShare V
      ⊢ iprop((owns (c : Thread nD τ) (b.slice r p) fullShare V -∗ WP c (k V) Q) -∗ WP c (.op (.load b r.toLoadRect hl) k) Q) := by
  unfold owns
  iintro ⟨%f, %hf, H⟩ Hk
  iapply (wp_load_rect 𝒱₀ (c : Thread nD τ) none Set.univ (m := b) (r := r) (hl := hl) (Finset.Subset.refl _)) $$ H
  iintro H
  rw [show (b.access r).read (Elt F) f = V from hf]
  iapply Hk
  iexists f
  isplitr; · ipureintro; exact hf
  iexact H

/-- A store over a whole piece that the device holds. -/
theorem wp_storeP (c : Dev nD) {s : Shape} {b : Memref sig .tc .vmem s .f32} {r : Rect s} {p : ∀ a, r.stride a = 1}
    {V w : Vec F r.shape .f32} {hx : (b.access r).Stores Finset.univ} {hm : (Finset.univ : Finset r.shape.Idx) = Finset.univ ∨ ∀ a, r.stride a = 1}
    {α : Type} {k : PUnit → Prog (Eff F) α} {Q : α → sProp 𝕄} :
    owns (Ix := Unit) (Name := ℕ) (U := UU) (Lvl := ℕ) (c : Thread nD τ) (b.slice r p) fullShare V
      ⊢ iprop((owns (c : Thread nD τ) (b.slice r p) fullShare w -∗ WP c (k ⟨⟩) Q) -∗ WP c (.op (.store b r w Finset.univ hx hm) k) Q) := by
  unfold owns
  iintro ⟨%f, %hf, H⟩ Hk
  iapply (wp_store 𝒱₀ (c : Thread nD τ) none Set.univ (m := b) (r := r) (Mk := Finset.univ) (hx := hx) (hm := hm) (S := (b.access r).set) (Finset.Subset.refl _)) $$ H
  iintro H
  iapply Hk
  iexists _
  isplitr; rotate_left
  · iexact H
  · ipureintro
    exact View.read_write_univ _ _

/-- The two blocks a device reads. -/
def inp (c : Dev nD) : sProp 𝕄 :=
  iprop((((c : Thread nD τ).loc cc0_stg0_0) ↦{fullShare} xstg m c) ∗ (((c : Thread nD τ).loc cc0_stg1_0) ↦{fullShare} wstg m c))

/-- A load from the block of `x`. -/
theorem wp_loadX (c : Dev nD) {r : Rect S2048x512} {hl : A₀.x.view.LoadsAt r.toLoadRect}
    {α : Type} {k : Vec F r.shape .f32 → Prog (Eff F) α} {Q : α → sProp 𝕄} :
    inp m c ⊢ iprop((inp m c -∗ WP c (k (A₀.x.view.readAt (Elt F) r.toLoadRect (xstg m c))) Q)
      -∗ WP c (.op (.load A₀.x r.toLoadRect hl) k) Q) := by
  unfold inp
  iintro ⟨H, Hw⟩ Hk
  iapply (wp_load 𝒱₀ (c : Thread nD τ) none Set.univ (m := A₀.x) (r := r.toLoadRect) (hl := hl) (Finset.subset_univ _)) $$ H
  iintro H
  iapply Hk
  isplitl [H] <;> iassumption

/-- The load of the block of `w`. -/
theorem wp_loadW (c : Dev nD) {hl : A₀.w.view.LoadsAt wRect.toLoadRect}
    {α : Type} {k : Vec F S512x2048 .f32 → Prog (Eff F) α} {Q : α → sProp 𝕄} :
    inp m c ⊢ iprop((inp m c -∗ WP c (k (wv m c)) Q) -∗ WP c (.op (.load A₀.w wRect.toLoadRect hl) k) Q) := by
  unfold inp
  iintro ⟨Hx, H⟩ Hk
  iapply (wp_load 𝒱₀ (c : Thread nD τ) none Set.univ (m := A₀.w) (r := wRect.toLoadRect) (hl := hl) (Finset.subset_univ _)) $$ H
  iintro H
  iapply Hk
  isplitl [Hx] <;> iassumption

/-! ## The loop rule -/

/-- What a loop's steps have in common: the cells' invariants, the levels, the blocks read. -/
def shared (c : Dev nD) : sProp 𝕄 := iprop((records m K ∗ levAts L lv) ∗ inp m c)

/-- A loop whose steps turn `R a` into `R' a`, each starting the transfers `o a`, while every transfer not
    yet started is `good`. -/
theorem wp_forL (c : Dev nD) {α : Type} (f : α → Prog (Eff F) PUnit) (R R' : α → sProp 𝕄) (o : α → List Rx) (good : Rx → Prop)
    (hstep : ∀ a l, (∀ r ∈ o a ++ l, good r) →
      iprop(shared m K c ∗ R a ∗ owesE c (owedL c (o a ++ l))) ⊢ WP c (f a) (fun _ => iprop(shared m K c ∗ R' a ∗ owesE c (owedL c l))))
    (T : List Rx) : ∀ l : List α, (∀ r ∈ l.flatMap o ++ T, good r) →
      iprop(shared m K c ∗ bigSepL l R ∗ owesE c (owedL c (l.flatMap o ++ T)))
        ⊢ WP c (forL f l) (fun _ => iprop(shared m K c ∗ bigSepL l R' ∗ owesE c (owedL c T)))
  | [], _ => by
    show _ ⊢ WP c (pure PUnit.unit : Prog (Eff F) PUnit) _
    rw [WP, wp_pure]
    exact fupd_intro (PROP := sProp 𝕄)
  | a :: l, hT => by
    rw [List.flatMap_cons, List.append_assoc] at hT ⊢
    rw [bigSepL_cons', bigSepL_cons']
    show _ ⊢ WP c (f a >>= fun _ => forL f l) _
    rw [WP, wp_bind]
    iintro ⟨HS, ⟨Ha, Hl⟩, HO⟩
    ihave Hw := (hstep a (l.flatMap o ++ T) hT) $$ [HS Ha HO]
    · isplitl [HS]; · iexact HS
      isplitl [Ha] <;> iassumption
    iapply (wp_wand frame (wpE (defs₀ (F := F)) 𝒱₀ (c : Thread nD τ) none) Set.univ) $$ Hw
    iintro %_ ⟨HS, Ha, HO⟩
    ihave Hw := (wp_forL c f R R' o good hstep T l fun r hr => hT r (List.mem_append_right _ hr)) $$ [HS Hl HO]
    · isplitl [HS]; · iexact HS
      isplitl [Hl] <;> iassumption
    iapply (wp_wand frame (wpE (defs₀ (F := F)) 𝒱₀ (c : Thread nD τ) none) Set.univ) $$ Hw
    iintro %_ ⟨HS, Hl, HO⟩
    isplitl [HS]; · iexact HS
    isplitr [HO]; · isplitl [Ha] <;> iassumption
    iexact HO

theorem forL_append {α : Type} (f : α → Prog (Eff F) PUnit) : ∀ l l' : List α, forL f (l ++ l') = forL f l >>= fun _ => forL f l'
  | [], _ => rfl
  | a :: l, l' => by
    show (f a >>= fun _ => forL f (l ++ l')) = (f a >>= fun _ => forL f l) >>= fun _ => forL f l'
    rw [forL_append f l l', bind_assoc]

theorem forL_map {α β : Type} (f : β → Prog (Eff F) PUnit) (g : α → β) : ∀ l : List α, forL f (l.map g) = forL (fun a => f (g a)) l
  | [] => rfl
  | a :: l => by
    show (f (g a) >>= fun _ => forL f (l.map g)) = _
    rw [forL_map f g l]; rfl

/-! ## The steps -/

/-- The rows a device finishes are the rows it sends first. -/
theorem ownOff_eq (d : Bool) (c : Dev nD) (s : Fin 4) : ownOff d c s = agOff d c 0 s := by
  cases d <;> revert c s <;> decide
set_option maxHeartbeats 4000000 in
/-- The rows that arrive at one gather hop are sent on at the next. -/
theorem agOff_up (d : Bool) (c : Dev nD) (g : Fin 2) (s : Fin 4) : agOff d (up d c) g.castSucc s = agOff d c g.succ s := by
  cases d <;> revert c g s <;> decide

/-- The piece a device finishes, at the rectangle it is stored through. -/
theorem outP_own (c : Dev nD) (d : Bool) (s : Fin 4) (V : Vec F S64x2048 .f32) :
    outP c d c 0 s V = owns (c : Thread nD τ) (A₀.out.slice (ownRect d c s) (fun _ => rfl)) fullShare V := by
  unfold outP
  rw [show agAt A₀.out d c 0 s = A₀.out.slice (ownRect d c s) (fun _ => rfl) from
    Memref.slice_unit_congr A₀.out (ownOff_eq d c s).symm (agIn d c 0 s) (ownIn d c s) (fun _ => rfl) (fun _ => rfl)]
/-- The piece that arrived is the piece sent on. -/
theorem outP_up (c : Dev nD) (d : Bool) (g : Fin 2) (s : Fin 4) (V : Vec F S64x2048 .f32) :
    outP c d (up d c) g.castSucc s V = outP c d c g.succ s V := by
  unfold outP
  rw [show agAt A₀.out d (up d c) g.castSucc s = agAt A₀.out d c g.succ s from
    Memref.slice_unit_congr A₀.out (agOff_up d c g s) (agIn d (up d c) g.castSucc s) (agIn d c g.succ s) (fun _ => rfl) (fun _ => rfl)]

/-- The first transfers of the reduce. -/
theorem step_rsSend (c : Dev nD) (y : Lane) (l : List Rx) :
    iprop(shared m K c ∗ (accP c y.2 0 y.1 (accV m y.2 0 c y.1) ∗ sendRs c 0 y) ∗ owesE c (owedL c ([(false, 0, y)] ++ l)))
      ⊢ WP c (rsSend A₀ c 0 y.1 y.2) (fun _ => iprop(shared m K c ∗ cred (tallyAt (cell c (some (0, 0, y))) () N) ∗ owesE c (owedL c l))) := by
  unfold shared
  iintro ⟨⟨⟨#HR, #Hlev⟩, HS⟩, ⟨Hs, Ht⟩, HO⟩
  iapply (wp_rsSend_to m K c _ 0 y (toDev_eq y.2 c) l) $$ [Hs Ht HO]
  · isplitr; · iexact HR
    isplitl [Hs]; · iexact Hs
    isplitl [Ht]; · iexact Ht
    iexact HO
  iintro ⟨Hc, HO⟩
  rw [WP, wp_ret]; imodintro
  isplitl [HS]
  · isplitr; · isplitr; · iexact HR
               iexact Hlev
    iexact HS
  isplitl [Hc] <;> iassumption

/-- What a reduce hop before the last takes. -/
abbrev rsPre (c : Dev nD) (h : Fin 2) (y : Lane) : sProp 𝕄 :=
  iprop(waitOn (F := F) c (1, h.castSucc, y) ∗ (∃ V, accP (F := F) c y.2 h.succ y.1 V) ∗ sendRs (F := F) c h.succ y)
/-- What it leaves. -/
abbrev rsPost (c : Dev nD) (h : Fin 2) (y : Lane) : sProp 𝕄 :=
  iprop((semVal (cell c (some (1, h.castSucc, y))) 0 ∗ rcvP c y.2 h.castSucc y.1 (accV m y.2 h.castSucc (up y.2 c) y.1))
    ∗ cred (tallyAt (cell c (some (0, h.succ, y))) () N))

theorem step_rs (c : Dev nD) (h : Fin 2) (y : Lane) (l : List Rx) (hl : ∀ r ∈ [(false, h.succ, y)] ++ l, 2 + h.val < xlv (rx r)) :
    iprop(shared m K c ∗ rsPre c h y ∗ owesE c (owedL c ([(false, h.succ, y)] ++ l)))
      ⊢ WP c (rsStep A₀ c (h, y)) (fun _ => iprop(shared m K c ∗ rsPost m c h y ∗ owesE c (owedL c l))) := by
  obtain ⟨s, d⟩ := y
  unfold shared rsPre rsPost rsStep
  simp only [Prog.lift, Prog.bind_op, Prog.bind_ret, Prog.pure_eq_ret]
  iintro ⟨⟨⟨#HR, #Hlev⟩, HS⟩, ⟨Hw, ⟨%V, Ha⟩, Ht⟩, HO⟩
  iapply (wp_loadX m c) $$ HS; iintro HS
  iapply (wp_loadW m c) $$ HS; iintro HS
  iapply (wp_xwait m K c (1, h.castSucc, (s, d)) (fun K' => (wpE_waitDma2_eq 𝒱₀ (c : Thread nD τ) none Set.univ K').trans
    (by rw [N_rcv])) _ (2 + h.val) (by simp [xlv]) hl) $$ [Hw HO]
  · isplitr; · iexact HR
    isplitr; · iexact Hlev
    isplitl [Hw]; · iexact Hw
    iexact HO
  iintro ⟨HO, Hz, Hp⟩
  ihave Hv := (Entails.of_eq (show xPay m c (1, h.castSucc, (s, d)) = rcvP c d h.castSucc s (accV m d h.castSucc (up d c) s) from rfl)) $$ Hp
  unfold rcvP
  iapply (wp_loadP c) $$ Hv; iintro Hv
  unfold accP
  iapply (wp_loadP c) $$ Ha; iintro Ha
  iapply (wp_storeP c) $$ Ha; iintro Ha
  iapply (wp_rsSend_to m K c _ h.succ (s, d) (toDev_eq d c) l) $$ [Ha Ht HO]
  · isplitr; · iexact HR
    isplitl [Ha]; · rw [accV_succ]; unfold accP; iexact Ha
    isplitl [Ht]; · iexact Ht
    iexact HO
  iintro ⟨Hc, HO⟩
  rw [WP, wp_ret]; imodintro
  isplitl [HS]
  · isplitr; · isplitr; · iexact HR
               iexact Hlev
    iexact HS
  isplitr [HO]
  · isplitr [Hc]; · isplitl [Hz]; · iexact Hz
                    iexact Hv
    iexact Hc
  iexact HO

/-- What the last reduce hop takes. -/
abbrev lastPre (c : Dev nD) (y : Lane) : sProp 𝕄 :=
  iprop(waitOn (F := F) c (1, 2, y) ∗ (∃ V, outP (F := F) c y.2 c 0 y.1 V) ∗ sendAg (F := F) c 0 y)
/-- What it leaves. -/
abbrev lastPost (c : Dev nD) (y : Lane) : sProp 𝕄 :=
  iprop((semVal (cell c (some (1, 2, y))) 0 ∗ rcvP c y.2 2 y.1 (accV m y.2 2 (up y.2 c) y.1))
    ∗ cred (tallyAt (cell c (some (2, 0, y))) () N))

theorem step_last (c : Dev nD) (y : Lane) (l : List Rx) (hl : ∀ r ∈ [(true, 0, y)] ++ l, 4 < xlv (rx r)) :
    iprop(shared m K c ∗ lastPre c y ∗ owesE c (owedL c ([(true, 0, y)] ++ l)))
      ⊢ WP c (lastStep A₀ c y) (fun _ => iprop(shared m K c ∗ lastPost m c y ∗ owesE c (owedL c l))) := by
  obtain ⟨s, d⟩ := y
  unfold shared lastPre lastPost lastStep
  simp only [Prog.lift, Prog.bind_op, Prog.bind_ret, Prog.pure_eq_ret]
  iintro ⟨⟨⟨#HR, #Hlev⟩, HS⟩, ⟨Hw, ⟨%V, Ha⟩, Ht⟩, HO⟩
  iapply (wp_loadX m c) $$ HS; iintro HS
  iapply (wp_loadW m c) $$ HS; iintro HS
  iapply (wp_xwait m K c (1, 2, (s, d)) (fun K' => (wpE_waitDma2_eq 𝒱₀ (c : Thread nD τ) none Set.univ K').trans
    (by rw [N_rcv])) _ 4 (Nat.le_of_eq rfl) hl) $$ [Hw HO]
  · isplitr; · iexact HR
    isplitr; · iexact Hlev
    isplitl [Hw]; · iexact Hw
    iexact HO
  iintro ⟨HO, Hz, Hp⟩
  ihave Hv := (Entails.of_eq (show xPay m c (1, 2, (s, d)) = rcvP c d 2 s (accV m d 2 (up d c) s) from rfl)) $$ Hp
  unfold rcvP
  iapply (wp_loadP c) $$ Hv; iintro Hv
  ihave Ha := (Entails.of_eq (outP_own c d s V)) $$ Ha
  iapply (wp_loadP c) $$ Ha; iintro Ha
  iapply (wp_storeP c) $$ Ha; iintro Ha
  iapply (wp_agSend_to m K c _ 0 (s, d) (toDev_eq d c) l) $$ [Ha Ht HO]
  · isplitr; · iexact HR
    isplitl [Ha]; · rw [outP_own, agV_zero]; iexact Ha
    isplitl [Ht]; · iexact Ht
    iexact HO
  iintro ⟨Hc, HO⟩
  rw [WP, wp_ret]; imodintro
  isplitl [HS]
  · isplitr; · isplitr; · iexact HR
               iexact Hlev
    iexact HS
  isplitr [HO]
  · isplitr [Hc]; · isplitl [Hz]; · iexact Hz
                    iexact Hv
    iexact Hc
  iexact HO

/-- What a gather hop before the last takes. -/
abbrev agPre (c : Dev nD) (g : Fin 2) (y : Lane) : sProp 𝕄 :=
  iprop(waitOn (F := F) c (3, g.castSucc, y) ∗ sendAg (F := F) c g.succ y)
/-- What it leaves. -/
abbrev agPost (c : Dev nD) (g : Fin 2) (y : Lane) : sProp 𝕄 :=
  iprop(semVal (cell c (some (3, g.castSucc, y))) 0 ∗ cred (tallyAt (cell c (some (2, g.succ, y))) () N))

theorem step_ag (c : Dev nD) (g : Fin 2) (y : Lane) (l : List Rx) (hl : ∀ r ∈ [(true, g.succ, y)] ++ l, 5 + g.val < xlv (rx r)) :
    iprop(shared m K c ∗ agPre c g y ∗ owesE c (owedL c ([(true, g.succ, y)] ++ l)))
      ⊢ WP c (agStep A₀ c (g, y)) (fun _ => iprop(shared m K c ∗ agPost c g y ∗ owesE c (owedL c l))) := by
  obtain ⟨s, d⟩ := y
  unfold shared agPre agPost agStep
  simp only [Prog.lift, Prog.bind_op, Prog.bind_ret, Prog.pure_eq_ret]
  iintro ⟨⟨⟨#HR, #Hlev⟩, HS⟩, ⟨Hw, Ht⟩, HO⟩
  iapply (wp_xwait m K c (3, g.castSucc, (s, d)) (fun K' => (wpE_waitDma2_eq 𝒱₀ (c : Thread nD τ) none Set.univ K').trans
    (by rw [N_out])) _ (5 + g.val) (by simp [xlv]) hl) $$ [Hw HO]
  · isplitr; · iexact HR
    isplitr; · iexact Hlev
    isplitl [Hw]; · iexact Hw
    iexact HO
  iintro ⟨HO, Hz, Hp⟩
  ihave Hv := (Entails.of_eq (show xPay m c (3, g.castSucc, (s, d)) = outP c d (up d c) g.castSucc s (agV m d g.castSucc (up d c) s) from rfl)) $$ Hp
  iapply (wp_agSend_to m K c _ g.succ (s, d) (toDev_eq d c) l) $$ [Hv Ht HO]
  · isplitr; · iexact HR
    isplitl [Hv]; · rw [agV_succ, ← outP_up]; iexact Hv
    isplitl [Ht]; · iexact Ht
    iexact HO
  iintro ⟨Hc, HO⟩
  rw [WP, wp_ret]; imodintro
  isplitl [HS]
  · isplitr; · isplitr; · iexact HR
               iexact Hlev
    iexact HS
  isplitr [HO]
  · isplitl [Hz] <;> iassumption
  iexact HO

/-- What the last gather hop leaves. -/
abbrev gotPost (c : Dev nD) (y : Lane) : sProp 𝕄 :=
  iprop(semVal (cell c (some (3, 2, y))) 0 ∗ outP c y.2 (up y.2 c) 2 y.1 (agV m y.2 2 (up y.2 c) y.1))

theorem step_got (c : Dev nD) (y : Lane) (l : List Rx) (hl : ∀ r ∈ ([] : List Rx) ++ l, 7 < xlv (rx r)) :
    iprop(shared m K c ∗ waitOn c (3, 2, y) ∗ owesE c (owedL c ([] ++ l)))
      ⊢ WP c (agWait A₀ c 2 y.1 y.2) (fun _ => iprop(shared m K c ∗ gotPost m c y ∗ owesE c (owedL c l))) := by
  obtain ⟨s, d⟩ := y
  unfold shared gotPost
  iintro ⟨⟨⟨#HR, #Hlev⟩, HS⟩, Hw, HO⟩
  iapply (wp_xwait m K c (3, 2, (s, d)) (fun K' => (wpE_waitDma2_eq 𝒱₀ (c : Thread nD τ) none Set.univ K').trans
    (by rw [N_out])) _ 7 (Nat.le_of_eq rfl) hl) $$ [Hw HO]
  · isplitr; · iexact HR
    isplitr; · iexact Hlev
    isplitl [Hw]; · iexact Hw
    iexact HO
  iintro ⟨HO, Hz, Hp⟩
  ihave Hv := (Entails.of_eq (show xPay m c (3, 2, (s, d)) = outP c d (up d c) 2 s (agV m d 2 (up d c) s) from rfl)) $$ Hp
  rw [WP, wp_ret]; imodintro
  isplitl [HS]
  · isplitr; · isplitr; · iexact HR
               iexact Hlev
    iexact HS
  isplitr [HO]
  · isplitl [Hz] <;> iassumption
  iexact HO

/-- What a step of the closing loop takes. -/
abbrev donePre (c : Dev nD) (h : Fin 3) (y : Lane) : sProp 𝕄 :=
  iprop(waitOn (F := F) c (0, h, y) ∗ waitOn (F := F) c (2, h, y))
/-- What it leaves. -/
abbrev donePost (c : Dev nD) (h : Fin 3) (y : Lane) : sProp 𝕄 :=
  iprop((semVal (cell c (some (0, h, y))) 0 ∗ accP c y.2 h y.1 (accV m y.2 h c y.1))
    ∗ (semVal (cell c (some (2, h, y))) 0 ∗ outP c y.2 c h y.1 (agV m y.2 h c y.1)))

theorem step_done (c : Dev nD) (h : Fin 3) (y : Lane) (l : List Rx) (hl : ∀ r ∈ ([] : List Rx) ++ l, 0 < xlv (rx r)) :
    iprop(shared m K c ∗ donePre c h y ∗ owesE c (owedL c ([] ++ l)))
      ⊢ WP c (doneStep A₀ c (h, y)) (fun _ => iprop(shared m K c ∗ donePost m c h y ∗ owesE c (owedL c l))) := by
  obtain ⟨s, d⟩ := y
  unfold shared donePre donePost doneStep
  simp only [Prog.lift, Prog.bind_op, Prog.bind_ret, Prog.pure_eq_ret]
  iintro ⟨⟨⟨#HR, #Hlev⟩, HS⟩, ⟨Hw, Hw'⟩, HO⟩
  iapply (wp_xwait m K c (0, h, (s, d)) (fun K' => (wpE_waitDma2_eq 𝒱₀ (c : Thread nD τ) none Set.univ K').trans
    (by rw [N_acc])) _ 0 (by simp [xlv]) hl) $$ [Hw HO]
  · isplitr; · iexact HR
    isplitr; · iexact Hlev
    isplitl [Hw]; · iexact Hw
    iexact HO
  iintro ⟨HO, Hz, Hp⟩
  iapply (wp_xwait m K c (2, h, (s, d)) (fun K' => (wpE_waitDma2_eq 𝒱₀ (c : Thread nD τ) none Set.univ K').trans
    (by rw [N_out])) _ 0 (by simp [xlv]) hl) $$ [Hw' HO]
  · isplitr; · iexact HR
    isplitr; · iexact Hlev
    isplitl [Hw']; · iexact Hw'
    iexact HO
  iintro ⟨HO, Hz', Hp'⟩
  ihave Hv := (Entails.of_eq (show xPay m c (0, h, (s, d)) = accP c d h s (accV m d h c s) from rfl)) $$ Hp
  ihave Hv' := (Entails.of_eq (show xPay m c (2, h, (s, d)) = outP c d c h s (agV m d h c s) from rfl)) $$ Hp'
  rw [WP, wp_ret]; imodintro
  isplitl [HS]
  · isplitr; · isplitr; · iexact HR
               iexact Hlev
    iexact HS
  isplitr [HO]
  · isplitl [Hz Hv]; · isplitl [Hz] <;> iassumption
    isplitl [Hz'] <;> iassumption
  iexact HO

end Cert.KernelIdeal.Ring

end
-- ==== Proof.KernelIdeal.Pieces.lean ====
/-
The buffers cut into the pieces that the transfers move, and put together again: the buffers of running sums
and of landings into twelve segments, the result's block into thirty-two runs of rows.
-/
module

public import proofs.«01_k».proof.Proof.KernelIdeal.Hops

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## Any buffer cut by rectangles -/

section Cut
variable {s : Shape} (B : Memref sig .tc .vmem s .f32) {ι : Type} [Fintype ι] [DecidableEq ι] (r : ι → Rect s)
  (p : ∀ i a, (r i).stride a = 1) (hd : ∀ i j, i ≠ j → Disjoint (r i).set (r j).set) (hc : ∀ x, ∃ i, x ∈ (r i).set)

include hd in
omit [Fintype ι] [DecidableEq ι] in
theorem cut_disjoint (i j : ι) (h : i ≠ j) : Disjoint (B.slice (r i) (p i)).view.set (B.slice (r j) (p j)).view.set := by
  show Disjoint (B.view.slice (r i)).set (B.view.slice (r j)).set
  rw [View.set_slice, View.set_slice]
  exact (Finset.disjoint_map _).mpr (hd i j h)

include hc in
omit [DecidableEq ι] in
theorem cut_cover [DecidableEq B.view.ty.shape.Idx] : B.view.set = Finset.univ.biUnion fun i => (B.slice (r i) (p i)).view.set := by
  ext x
  simp only [Finset.mem_biUnion, Finset.mem_univ, true_and]
  constructor
  · intro hx
    obtain ⟨y, -, rfl⟩ := Finset.mem_map.mp hx
    obtain ⟨i, hi⟩ := hc y
    refine ⟨i, ?_⟩
    show _ ∈ (B.view.slice (r i)).set
    rw [View.set_slice]
    exact Finset.mem_map_of_mem _ hi
  · rintro ⟨i, hi⟩
    exact View.set_slice_subset B.view (r i) hi

omit [Fintype ι] [DecidableEq ι] in
/-- A part of a buffer's elements is a piece, at the contents' part. -/
theorem part_owns (c : Dev nD) (r : Rect s) (p : ∀ a, r.stride a = 1) (f : Buf (Elt F) (B.view.loc (c : Thread nD τ))) :
    (B.view.loc (c : Thread nD τ) ↦[(B.slice r p).view.set]{fullShare} f : sProp 𝕄)
      ⊢ owns (Ix := Unit) (Name := ℕ) (U := UU) (Lvl := ℕ) (c : Thread nD τ) (B.slice r p) fullShare fun x => B.view.read (Elt F) f (r.emb x) := by
  unfold owns
  iintro H
  iexists f
  isplitr; · ipureintro; rfl
  iexact H

include hd hc in
/-- A buffer held whole is held in pieces, each at the contents' part. -/
theorem owns_cut (c : Dev nD) (V : Vec F s .f32) :
    owns (Ix := Unit) (Name := ℕ) (U := UU) (Lvl := ℕ) (c : Thread nD τ) B fullShare V
      ⊢ bigSep Finset.univ fun i => owns (c : Thread nD τ) (B.slice (r i) (p i)) fullShare fun x => V ((r i).emb x) := by
  classical
  unfold owns
  iintro ⟨%f, %hf, H⟩
  subst hf
  rw [cut_cover B r p hc]
  ihave H := (Entails.of_eq (pointsTo_biUnion (ℓ := B.view.loc (c : Thread nD τ)) (q := fullShare) (f := f) Finset.univ
    (fun i => (B.slice (r i) (p i)).view.set) fun i _ j _ h => cut_disjoint B r p hd i j h)) $$ H
  have hm : (bigSep Finset.univ fun i => (B.view.loc (c : Thread nD τ) ↦[(B.slice (r i) (p i)).view.set]{fullShare} f : sProp 𝕄))
      ⊢ bigSep Finset.univ fun i => owns (c : Thread nD τ) (B.slice (r i) (p i)) fullShare fun x => B.view.read (Elt F) f ((r i).emb x) :=
    bigSep_mono fun i _ => part_owns B c (r i) (p i) f
  unfold owns at hm
  iapply hm
  iexact H

include hd hc in
/-- Pieces that make up a buffer are the buffer, at contents whose parts are the pieces'. -/
theorem owns_join [Nonempty ι] (c : Dev nD) (f₀ : Buf (Elt F) (B.view.loc (c : Thread nD τ))) (V : (i : ι) → Vec F (r i).shape .f32) :
    (bigSep Finset.univ fun i => owns (Ix := Unit) (Name := ℕ) (U := UU) (Lvl := ℕ) (c : Thread nD τ) (B.slice (r i) (p i)) fullShare (V i))
      ⊢ iprop(∃ X, ⌜∀ i x, X ((r i).emb x) = V i x⌝ ∗ owns (c : Thread nD τ) B fullShare X) := by
  classical
  unfold owns
  haveI : ∀ i : ι, Nonempty (Buf (Elt F) ((B.slice (r i) (p i)).view.loc (c : Thread nD τ))) := fun i => ⟨f₀⟩
  iintro H
  ihave H := (bigSep_exists_pi Finset.univ (fun (i : ι) (f : Buf (Elt F) ((B.slice (r i) (p i)).view.loc (c : Thread nD τ))) =>
    iprop(⌜(B.slice (r i) (p i)).view.read (Elt F) f = V i⌝ ∗ ((B.slice (r i) (p i)).view.loc (c : Thread nD τ) ↦[(B.slice (r i) (p i)).view.set]{fullShare} f)))) $$ H
  icases H with ⟨%fs, H⟩
  ihave H := (bigSep_pure_sep Finset.univ (fun i => (B.slice (r i) (p i)).view.read (Elt F) (fs i) = V i)
    (fun i => ((B.slice (r i) (p i)).view.loc (c : Thread nD τ) ↦[(B.slice (r i) (p i)).view.set]{fullShare} fs i))) $$ H
  icases H with ⟨%hV, H⟩
  ihave H := (pointsTo_biUnion_join (ℓ := B.view.loc (c : Thread nD τ)) (q := fullShare) Finset.univ (fun i => (B.slice (r i) (p i)).view.set) fs f₀
    (fun i _ j _ h => cut_disjoint B r p hd i j h)) $$ H
  icases H with ⟨%g, %hg, H⟩
  iexists B.view.read (Elt F) g
  isplitr
  · ipureintro
    intro i x
    rw [← hV i (Finset.mem_univ i)]
    show _root_.cast _ (g ((B.view.slice (r i)).emb x)) = _root_.cast _ (fs i ((B.view.slice (r i)).emb x))
    rw [hg i (Finset.mem_univ i) _ (View.emb_mem_set _ x)]
  · iexists g
    isplitr; · ipureintro; rfl
    rw [cut_cover B r p hc]
    iexact H
end Cut

/-! ## Segments of a buffer of three slots -/

/-- A hop and a segment. -/
abbrev HS : Type := Fin 3 × Fin 4

omit [FloatOps F] in
theorem segs_disjoint (i j : HS) (h : i ≠ j) : Disjoint (segRect i.1 i.2).set (segRect j.1 j.2).set := by
  obtain ⟨a, b⟩ := i; obtain ⟨a', b'⟩ := j
  by_cases e : a = a'
  · have hb : b.val ≠ b'.val := fun hb => h (Prod.ext e (Fin.ext hb))
    exact Rect.unit_disjoint 1 (by show 64 * b.val + 64 ≤ 64 * b'.val ∨ 64 * b'.val + 64 ≤ 64 * b.val; omega)
  · have ha : a.val ≠ a'.val := fun ha => e (Fin.ext ha)
    exact Rect.unit_disjoint 0 (by show a.val + 1 ≤ a'.val ∨ a'.val + 1 ≤ a.val; omega)

omit [FloatOps F] in
theorem segs_cover (x : S3x256x2048.Idx) : ∃ i : HS, x ∈ (segRect i.1 i.2).set := by
  have h0 : (x 0).val < 3 := (x 0).isLt
  have h1 : (x 1).val < 256 := (x 1).isLt
  have h2 : (x 2).val < 2048 := (x 2).isLt
  refine ⟨(⟨(x 0).val, h0⟩, ⟨(x 1).val / 64, by omega⟩), ?_⟩
  rw [Rect.mem_set_unit]
  intro a
  fin_cases a
  · show (x 0).val ≤ (x 0).val ∧ (x 0).val < (x 0).val + 1; omega
  · show 64 * ((x 1).val / 64) ≤ (x 1).val ∧ (x 1).val < 64 * ((x 1).val / 64) + 64; omega
  · show 0 ≤ (x 2).val ∧ (x 2).val < 0 + 2048; omega

/-! ## Runs of rows of the result -/

/-- The device `k` steps back along direction `d`. -/
def src (d : Bool) : ℕ → Dev nD → Dev nD
  | 0, c => c
  | k + 1, c => src d k (up d c)

/-- The run of 64 rows that comes from `k` steps back: its number. -/
def qn (d : Bool) (c : Dev nD) (k s : Fin 4) : ℕ := 8 * (dn d (src d k.val c)).val + cond d 4 0 + s.val

theorem qn_lt (d : Bool) (c : Dev nD) (k s : Fin 4) : qn d c k s < 32 := by
  unfold qn
  have h : (dn d (src d k.val c)).val < 4 := (dn d (src d k.val c)).isLt
  have hs := s.isLt
  cases d <;> simp only [cond_true, cond_false] <;> omega

theorem qIn (d : Bool) (c : Dev nD) (k s : Fin 4) :
    ∀ a, (![64 * qn d c k s, 0] : Fin 2 → ℕ) a + S64x2048.size a ≤ S2048x2048.size a := by
  intro a
  have h := qn_lt d c k s
  fin_cases a
  · show 64 * qn d c k s + 64 ≤ 2048; omega
  · show 0 + 2048 ≤ 2048; omega

/-- The run of rows, as a rectangle. -/
abbrev qRect (d : Bool) (c : Dev nD) (k s : Fin 4) : Rect S2048x2048 :=
  Rect.unit (s := S2048x2048) ![64 * qn d c k s, 0] S64x2048.size (qIn d c k s)

/-- Device `b` holds the run of rows that comes to device `c` from `k` steps back. -/
def outK (b : Dev nD) (d : Bool) (c : Dev nD) (k s : Fin 4) (V : Vec F S64x2048 .f32) : sProp 𝕄 :=
  owns (Ix := Unit) (Name := ℕ) (U := UU) (Lvl := ℕ) (b : Thread nD τ) (A₀.out.slice (qRect d c k s) (fun _ => rfl)) fullShare V

set_option maxHeartbeats 4000000 in
theorem agOff_q (d : Bool) (c : Dev nD) (g : Fin 3) (s : Fin 4) : agOff d c g s = ![64 * qn d c g.castSucc s, 0] := by
  cases d <;> revert c g s <;> decide

theorem outP_send (b : Dev nD) (d : Bool) (c : Dev nD) (g : Fin 3) (s : Fin 4) (V : Vec F S64x2048 .f32) :
    outP b d c g s V = outK b d c g.castSucc s V := by
  unfold outP outK
  rw [show agAt A₀.out d c g s = A₀.out.slice (qRect d c g.castSucc s) (fun _ => rfl) from
    Memref.slice_unit_congr A₀.out (agOff_q d c g s) (agIn d c g s) (qIn d c g.castSucc s) (fun _ => rfl) (fun _ => rfl)]

theorem qn_up (d : Bool) (c : Dev nD) (g : Fin 3) (s : Fin 4) : qn d (up d c) g.castSucc s = qn d c g.succ s := rfl

theorem outP_land (b : Dev nD) (d : Bool) (c : Dev nD) (g : Fin 3) (s : Fin 4) (V : Vec F S64x2048 .f32) :
    outP b d (up d c) g s V = outK b d c g.succ s V := by
  rw [outP_send]; rfl

/-- A direction, a number of steps and a segment. -/
abbrev Run : Type := Bool × Fin 4 × Fin 4

omit [FloatOps F] in
theorem runs_disjoint (c : Dev nD) (i j : Run) (h : i ≠ j) :
    Disjoint (qRect i.1 c i.2.1 i.2.2).set (qRect j.1 c j.2.1 j.2.2).set := by
  have hq : qn i.1 c i.2.1 i.2.2 ≠ qn j.1 c j.2.1 j.2.2 := by
    obtain ⟨d, k, s⟩ := i; obtain ⟨d', k', s'⟩ := j
    intro e
    unfold qn at e
    dsimp only at e
    have hs := s.isLt; have hs' := s'.isLt
    have hd : d = d' := by cases d <;> cases d' <;> simp only [cond_true, cond_false] at e ⊢ <;> omega
    subst hd
    have hss : s = s' := Fin.ext (by omega)
    have hkk : dn d (src d k.val c) = dn d (src d k'.val c) := Fin.ext (by omega)
    have hk : k = k' := by revert hkk; clear e h; revert d c k k'; decide
    exact h (by rw [hss, hk])
  exact Rect.unit_disjoint 0 (by
    show 64 * qn i.1 c i.2.1 i.2.2 + 64 ≤ 64 * qn j.1 c j.2.1 j.2.2 ∨ 64 * qn j.1 c j.2.1 j.2.2 + 64 ≤ 64 * qn i.1 c i.2.1 i.2.2
    omega)

omit [FloatOps F] in
theorem runs_cover (c : Dev nD) (x : S2048x2048.Idx) : ∃ i : Run, x ∈ (qRect i.1 c i.2.1 i.2.2).set := by
  have h0 : (x 0).val < 2048 := (x 0).isLt
  have h1 : (x 1).val < 2048 := (x 1).isLt
  obtain ⟨k, hk⟩ : ∃ k : Fin 4, (dn (decide ((x 0).val / 256 % 2 = 1)) (src (decide ((x 0).val / 256 % 2 = 1)) k.val c)) = ⟨(x 0).val / 512, by show _ < 4; omega⟩ := by
    generalize (⟨(x 0).val / 512, by show _ < 4; omega⟩ : Dev nD) = e
    generalize decide ((x 0).val / 256 % 2 = 1) = d
    revert d c e; decide
  refine ⟨(decide ((x 0).val / 256 % 2 = 1), k, ⟨(x 0).val / 64 % 4, by omega⟩), ?_⟩
  rw [Rect.mem_set_unit]
  have hq : qn (decide ((x 0).val / 256 % 2 = 1)) c k ⟨(x 0).val / 64 % 4, by omega⟩ = (x 0).val / 64 := by
    unfold qn
    rw [hk]
    dsimp only
    rcases Nat.mod_two_eq_zero_or_one ((x 0).val / 256) with h | h <;> rw [h] <;> simp <;> omega
  intro a
  fin_cases a
  · show 64 * qn _ c k _ ≤ (x 0).val ∧ (x 0).val < 64 * qn _ c k _ + 64
    dsimp only; rw [hq]; omega
  · show 0 ≤ (x 1).val ∧ (x 1).val < 0 + 2048; omega

/-- What the result's block holds at the end, the same on every device: each run of rows is what its owner
    finished. -/
def outF : (cc0_stg2_0 : Ref sig .tc).ty.Contents (Elt F) := fun i : S2048x2048.Idx =>
  finV m (decide ((i 0).val / 256 % 2 = 1))
    (up (decide ((i 0).val / 256 % 2 = 1)) ⟨(i 0).val / 512, by have : (i 0).val < 2048 := (i 0).isLt; show _ < 4; omega⟩)
    ⟨(i 0).val / 64 % 4, by omega⟩ (fun
      | 0 => ⟨(i 0).val % 64, Nat.mod_lt _ (by decide)⟩
      | 1 => ⟨(i 1).val, (i 1).isLt⟩)

theorem outF_run (d : Bool) (c : Dev nD) (k s : Fin 4) (x : (qRect d c k s).shape.Idx) :
    outF m ((qRect d c k s).emb x) = finV m d (src d k.val c) s x := by
  have hx0 : (x 0).val < 64 := (x 0).isLt
  have hs := s.isLt
  have hd : (dn d (src d k.val c)).val < 4 := (dn d (src d k.val c)).isLt
  have e0 : ((qRect d c k s).emb x 0).val = 64 * qn d c k s + (x 0).val := by
    rw [Rect.emb_apply]; show 64 * qn d c k s + 1 * (x 0).val = _; omega
  have e1 : ((qRect d c k s).emb x 1).val = (x 1).val := by
    rw [Rect.emb_apply]; show 0 + 1 * (x 1).val = _; omega
  have hdir : decide (((qRect d c k s).emb x 0).val / 256 % 2 = 1) = d := by
    rw [e0]; unfold qn
    cases d <;> simp only [cond_true, cond_false] at * <;> simp <;> omega
  have hch : ((qRect d c k s).emb x 0).val / 512 = (dn d (src d k.val c)).val := by
    rw [e0]; unfold qn
    cases d <;> simp only [cond_true, cond_false] at * <;> omega
  have hsg : ((qRect d c k s).emb x 0).val / 64 % 4 = s.val := by
    rw [e0]; unfold qn
    cases d <;> simp only [cond_true, cond_false] at * <;> omega
  have hr : ((qRect d c k s).emb x 0).val % 64 = (x 0).val := by rw [e0]; omega
  unfold outF
  dsimp only
  have hup : up d (⟨((qRect d c k s).emb x 0).val / 512, by rw [hch]; exact hd⟩ : Dev nD) = src d k.val c := by
    rw [show (⟨((qRect d c k s).emb x 0).val / 512, by rw [hch]; exact hd⟩ : Dev nD) = dn d (src d k.val c) from Fin.ext hch, up_dn]
  have hs' : (⟨((qRect d c k s).emb x 0).val / 64 % 4, by omega⟩ : Fin 4) = s := Fin.ext hsg
  simp only [hdir]
  rw [hup, hs']
  congr 1
  funext a
  fin_cases a
  · exact Fin.ext hr
  · exact Fin.ext e1

/-- What is sent at gather hop `g` was finished `g` steps back. -/
theorem agV_src (d : Bool) (g : Fin 3) (c : Dev nD) (s : Fin 4) : agV m d g c s = finV m d (src d g.val c) s := by
  fin_cases g
  · rfl
  · exact agV_succ m d 0 c s
  · exact (agV_succ m d 1 c s).trans (agV_succ m d 0 _ s)

end Cert.KernelIdeal.Ring

end
-- ==== Proof.KernelIdeal.Body.lean ====
/-
A device's whole body: the start, the handshake, the loops one after the other, from what a device holds at
the launch to what it holds at the end.
-/
module

public import proofs.«01_k».proof.Proof.KernelIdeal.Pieces

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Option X → ℕ)

/-! ## Regrouping -/

/-- One resource per lane. -/
abbrev B (Φ : Lane → sProp 𝕄) : sProp 𝕄 := bigSep Finset.univ Φ

omit [FloatOps F] in
theorem two (Φ : Bool → sProp 𝕄) : bigSep Finset.univ Φ = iprop(Φ false ∗ Φ true) :=
  bigSep_univ_eq_bigSepL [false, true] (by decide) (by decide) Φ
omit [FloatOps F] in
theorem three (Φ : Fin 3 → sProp 𝕄) : bigSep Finset.univ Φ = iprop(Φ 0 ∗ Φ 1 ∗ Φ 2) :=
  bigSep_univ_eq_bigSepL [0, 1, 2] (by decide) (by decide) Φ
omit [FloatOps F] in
theorem four (Φ : Fin 4 → sProp 𝕄) : bigSep Finset.univ Φ = iprop(Φ 0 ∗ Φ 1 ∗ Φ 2 ∗ Φ 3) :=
  bigSep_univ_eq_bigSepL [0, 1, 2, 3] (by decide) (by decide) Φ

omit [FloatOps F] in
/-- By direction, then by the rest, is by the rest, then by lane. -/
theorem by_lane {κ : Type} [Fintype κ] (Φ : Bool → κ → Fin 4 → sProp 𝕄) :
    (bigSep Finset.univ fun d => bigSep Finset.univ fun i : κ × Fin 4 => Φ d i.1 i.2)
      = bigSep Finset.univ fun k => B fun y => Φ y.2 k y.1 := by
  rw [show (fun d => bigSep Finset.univ fun i : κ × Fin 4 => Φ d i.1 i.2)
      = fun d => bigSep Finset.univ fun k => bigSep Finset.univ fun s => Φ d k s from funext fun d => bigSep_univ_prod _,
    Pipeline.bigSep_univ_comm]
  refine bigSep_congr fun k _ => ?_
  rw [Pipeline.bigSep_univ_comm, ← bigSep_univ_prod (fun y : Lane => Φ y.2 k y.1)]

omit [FloatOps F] in
theorem by_hop (Φ : Bool → Fin 3 → Fin 4 → sProp 𝕄) :
    iprop((bigSep Finset.univ fun i : HS => Φ false i.1 i.2) ∗ (bigSep Finset.univ fun i : HS => Φ true i.1 i.2))
      = iprop((B fun y => Φ y.2 0 y.1) ∗ (B fun y => Φ y.2 1 y.1) ∗ (B fun y => Φ y.2 2 y.1)) := by
  rw [← two fun d => bigSep Finset.univ fun i : HS => Φ d i.1 i.2, by_lane, three]

omit [FloatOps F] in
theorem by_run (Φ : Bool → Fin 4 → Fin 4 → sProp 𝕄) :
    (bigSep Finset.univ fun i : Run => Φ i.1 i.2.1 i.2.2)
      = iprop((B fun y => Φ y.2 0 y.1) ∗ (B fun y => Φ y.2 1 y.1) ∗ (B fun y => Φ y.2 2 y.1) ∗ (B fun y => Φ y.2 3 y.1)) := by
  rw [bigSep_univ_prod, by_lane, four]

omit [FloatOps F] in
theorem by_kind (Φ : X → sProp 𝕄) :
    bigSep Finset.univ Φ = iprop(((B fun y => Φ (0, 0, y)) ∗ (B fun y => Φ (0, 1, y)) ∗ (B fun y => Φ (0, 2, y)))
      ∗ ((B fun y => Φ (1, 0, y)) ∗ (B fun y => Φ (1, 1, y)) ∗ (B fun y => Φ (1, 2, y)))
      ∗ ((B fun y => Φ (2, 0, y)) ∗ (B fun y => Φ (2, 1, y)) ∗ (B fun y => Φ (2, 2, y)))
      ∗ ((B fun y => Φ (3, 0, y)) ∗ (B fun y => Φ (3, 1, y)) ∗ (B fun y => Φ (3, 2, y)))) := by
  rw [bigSep_univ_prod, four]
  simp only [bigSep_univ_prod (fun i : Fin 3 × Lane => _), three]

omit [FloatOps F] in
theorem by_rx (Φ : Rx → sProp 𝕄) :
    bigSep Finset.univ Φ = iprop(((B fun y => Φ (false, 0, y)) ∗ (B fun y => Φ (false, 1, y)) ∗ (B fun y => Φ (false, 2, y)))
      ∗ ((B fun y => Φ (true, 0, y)) ∗ (B fun y => Φ (true, 1, y)) ∗ (B fun y => Φ (true, 2, y)))) := by
  rw [bigSep_univ_prod, two]
  simp only [bigSep_univ_prod (fun i : Fin 3 × Lane => _), three]

omit [FloatOps F] in
theorem B_join (Φ Ψ : Lane → sProp 𝕄) : iprop(B Φ ∗ B Ψ) ⊢ B fun y => iprop(Φ y ∗ Ψ y) := Entails.of_eq (bigSep_sep' _ _ _).symm
omit [FloatOps F] in
theorem B_split (Φ Ψ : Lane → sProp 𝕄) : (B fun y => iprop(Φ y ∗ Ψ y)) ⊢ iprop(B Φ ∗ B Ψ) := Entails.of_eq (bigSep_sep' _ _ _)

/-! ## The start -/

/-- A load from a buffer held whole. -/
theorem wp_loadB (c : Dev nD) {s : Shape} {b : Memref sig .tc .vmem s .f32} {r : Rect s}
    {hl : b.view.LoadsAt r.toLoadRect} {V : Vec F s .f32}
    {α : Type} {k : Vec F r.shape .f32 → Prog (Eff F) α} {Q : α → sProp 𝕄} :
    owns (Ix := Unit) (Name := ℕ) (U := UU) (Lvl := ℕ) (c : Thread nD τ) b fullShare V
      ⊢ iprop((owns (c : Thread nD τ) b fullShare V -∗ WP c (k fun x => V (r.emb x)) Q) -∗ WP c (.op (.load b r.toLoadRect hl) k) Q) := by
  unfold owns
  iintro ⟨%f, %hf, H⟩ Hk
  iapply (wp_load_rect 𝒱₀ (c : Thread nD τ) none Set.univ (m := b) (r := r) (hl := hl) (View.set_slice_subset b.view r)) $$ H
  iintro H
  rw [show (b.access r).read (Elt F) f = fun x => V (r.emb x) by rw [← hf]; rfl]
  iapply Hk
  iexists f
  isplitr; · ipureintro; exact hf
  iexact H

/-- A store into a part of a buffer held whole. -/
theorem wp_storeB (c : Dev nD) {s : Shape} {b : Memref sig .tc .vmem s .f32} {r : Rect s}
    {V : Vec F s .f32} {w : Vec F r.shape .f32} {hx : (b.access r).Stores Finset.univ} {hm : (Finset.univ : Finset r.shape.Idx) = Finset.univ ∨ ∀ a, r.stride a = 1}
    {α : Type} {k : PUnit → Prog (Eff F) α} {Q : α → sProp 𝕄} :
    owns (Ix := Unit) (Name := ℕ) (U := UU) (Lvl := ℕ) (c : Thread nD τ) b fullShare V
      ⊢ iprop(((∃ V' : Vec F s .f32, ⌜∀ x, V' (r.emb x) = w x⌝ ∗ owns (c : Thread nD τ) b fullShare V') -∗ WP c (k ⟨⟩) Q)
        -∗ WP c (.op (.store b r w Finset.univ hx hm) k) Q) := by
  unfold owns
  iintro ⟨%f, %hf, H⟩ Hk
  iapply (wp_store 𝒱₀ (c : Thread nD τ) none Set.univ (m := b) (r := r) (Mk := Finset.univ) (hx := hx) (hm := hm) (S := b.view.set) (View.set_slice_subset b.view r)) $$ H
  iintro H
  iapply Hk
  iexists b.view.read (Elt F) ((b.access r).write (Elt F) f w Finset.univ)
  isplitr
  · ipureintro
    exact fun x => View.read_slice_write_emb _ _ _ (Finset.mem_univ x)
  · iexists _
    isplitr; rotate_left
    · iexact H
    · ipureintro; rfl

theorem seg_slot0 (s : Fin 4) (x : (segRect 0 s).shape.Idx) : (segRect 0 s).emb x = slot0.emb (segIx s x) := by
  funext a
  apply Fin.ext
  rw [Rect.emb_apply, Rect.emb_apply]
  have h0 : (x 0).val < 1 := (x 0).isLt
  fin_cases a
  · show 0 + 1 * (x 0).val = 0 + 1 * 0; omega
  · show 64 * s.val + 1 * (x 1).val = 0 + 1 * (64 * s.val + (x 1).val); omega
  · show 0 + 1 * (x 2).val = 0 + 1 * (x 2).val; rfl

/-- The buffer of running sums whose slot 0 is the device's own chunk. -/
def accOwn (c : Dev nD) (d : Bool) : sProp 𝕄 :=
  iprop(∃ V : Vec F S3x256x2048 .f32, ⌜∀ s x, V ((segRect 0 s).emb x) = accV m d 0 c s x⌝
    ∗ owns (Ix := Unit) (Name := ℕ) (U := UU) (Lvl := ℕ) (c : Thread nD τ) (A₀.acc d) fullShare V)

theorem accOwn_intro (c : Dev nD) (d : Bool) :
    iprop(∃ V : Vec F S3x256x2048 .f32, ⌜∀ x, V (slot0.emb x) = k0_pay3 (ov m d c) (wv m c) x⌝
      ∗ owns (Ix := Unit) (Name := ℕ) (U := UU) (Lvl := ℕ) (c : Thread nD τ) (A₀.acc d) fullShare V) ⊢ accOwn m c d := by
  unfold accOwn
  iintro ⟨%V, %hV, H⟩
  iexists V
  isplitr
  · ipureintro
    intro s x
    rw [seg_slot0, hV, accV_zero]
  iexact H

theorem step_init (c : Dev nD) (V₀ V₁ : Vec F S3x256x2048 .f32) :
    iprop(inp m c ∗ owns (Ix := Unit) (Name := ℕ) (U := UU) (Lvl := ℕ) (c : Thread nD τ) (A₀.acc false) fullShare V₀
        ∗ owns (c : Thread nD τ) (A₀.acc true) fullShare V₁)
      ⊢ WP c (initBody A₀ c) (fun _ => iprop(inp m c ∗ accOwn m c false ∗ accOwn m c true)) := by
  unfold initBody
  simp only [Prog.lift, Prog.bind_op, Prog.bind_ret, Prog.pure_eq_ret]
  iintro ⟨HS, H0, H1⟩
  iapply (wp_loadX m c) $$ HS; iintro HS
  iapply (wp_loadW m c) $$ HS; iintro HS
  iapply (wp_loadB c) $$ H0; iintro H0
  iapply (wp_storeB c) $$ H0; iintro H0
  iapply (wp_loadX m c) $$ HS; iintro HS
  iapply (wp_loadW m c) $$ HS; iintro HS
  iapply (wp_loadB c) $$ H1; iintro H1
  iapply (wp_storeB c) $$ H1; iintro H1
  rw [WP, wp_ret]; imodintro
  isplitl [HS]; · iexact HS
  isplitl [H0]; · iapply (accOwn_intro m c false); iexact H0
  iapply (accOwn_intro m c true); iexact H1

/-! ## The handshake -/

/-- One signal, addressed to any device equal to the neighbour. -/
theorem wp_signal_to (c n : Dev nD) (d : Bool) (hn : n = up d c) {k' : ℕ} (hk' : 1 = k') (O : CellTallies nD τ sig Unit)
    {α : Type} {k : PUnit → Prog (Eff F) α} {Q : α → sProp 𝕄} :
    iprop(records m K ∗ barPay (F := F) (up d c) d ∗ dutyTok ER (cell (up d c) none) 0 d ∗ owesE c (O + tallyAt (cell (up d c) none) () 1))
      ⊢ iprop((owesE c O -∗ WP c (k ⟨⟩) Q) -∗ WP c (.op (.semSignal (n : Thread nD τ) barS k') k) Q) := by
  subst hn
  subst hk'
  unfold owesE
  iintro ⟨#HR, Hp, Ht, %W, HO⟩ Hk
  ihave HI := (records_at m K (up d c) none) $$ HR
  icases HI with ⟨#HI, #Hr⟩
  iapply (Rounds.wp_signal 𝒱₀ ER (Rd m) (c : Thread nD τ) none (dst := (up d c : Thread nD τ)) (κ := K (up d c, none))
      (d := d) (by rw [duties_bar]; exact Finset.mem_univ _) (amount_bar m (up d c) d) () O rfl) $$ [Hp Ht HO]
  · isplitr; · iexact HI
    isplitl [HO]; · iexact HO
    isplitl [Ht]; · iexact Ht
    isplitl [Hp]; · rw [payload_bar]; iexact Hp
    iexact Hr
  iintro HO
  iapply Hk
  iexists _; iexact HO

/-- The wait for both neighbours. -/
theorem wp_barWait (c : Dev nD) {k' : ℕ} (hk' : 2 = k') (l : List Rx) (hl : ∀ r ∈ l, 1 < xlv (rx r))
    {α : Type} {k : PUnit → Prog (Eff F) α} {Q : α → sProp 𝕄} :
    iprop(records m K ∗ levAts L lv ∗ (atPos ER (cell c none) 0 ∅ 0 ∗ cred (tallyAt (cell c none) () 2)) ∗ owesE c (owedL c l))
      ⊢ iprop((((barPay (F := F) c false ∗ barPay (F := F) c true) ∗ semVal (cell c none) 0 ∗ owesE c (owedL c l)) -∗ WP c (k ⟨⟩) Q)
        -∗ WP c (.op (.semWait barS k') k) Q) := by
  subst hk'
  unfold owesE
  iintro ⟨#HR, #Hlev, ⟨Hat, Hc⟩, %W, HO⟩ Hk
  ihave HI := (records_at m K c none) $$ HR
  icases HI with ⟨#HI, -⟩
  iapply (Rounds.wp_wait_rest_token 𝒱₀ ER (Rd m) (c : Thread nD τ) none (κ := K (c, none))
      (wpE_semWait_eq 𝒱₀ (c : Thread nD τ) none Set.univ) (Set.mem_univ _) () (O := owedL c l) (W := W) (R := 0) (m := 0) (T := ∅)
      (by rw [Nat.zero_add]; exact (expect_bar m c).symm)) $$ [Hc HO Hat]
  · isplitr; · iexact HI
    isplitl [Hc]; · iexact Hc
    isplitl [HO]; · iexact HO
    isplitr; · iapply (mayWait_owedL c (.reg barS) l 1 (Nat.le_refl 1) hl); iexact Hlev
    iexact Hat
  iintro ⟨HO, Hat, -, Hpay⟩
  ihave Hp := (Entails.of_eq (rest_bar m c)) $$ Hpay
  imod (Rounds.cell_close ER (Rd m) (Set.mem_univ (K (c, none))) (fun h => h) (R := 0 + 1) (duties_later m (cell c none))) $$ [Hat] with Hz
  · isplitr; · iexact HI
    iexact Hat
  iapply Hk
  isplitl [Hp]; · iexact Hp
  isplitl [Hz]; · iexact Hz
  iexists _; iexact HO

theorem step_bar (c : Dev nD) :
    iprop(records m K ∗ levAts L lv ∗ (barPay (F := F) (up false c) false ∗ barPay (F := F) (up true c) true)
        ∗ (dutyTok ER (cell (up false c) none) 0 false ∗ dutyTok ER (cell (up true c) none) 0 true)
        ∗ (atPos ER (cell c none) 0 ∅ 0 ∗ cred (tallyAt (cell c none) () 2)) ∗ owesE c (O₀ c))
      ⊢ WP (F := F) c (barBody c) (fun _ => iprop((barPay (F := F) c false ∗ barPay (F := F) c true) ∗ semVal (cell c none) 0 ∗ owesE c (owedL c allRx))) := by
  unfold barBody O₀
  simp only [semSignalWord, semWaitWord, Prog.lift, Prog.bind_op, Prog.bind_ret, Prog.pure_eq_ret]
  iintro ⟨#HR, #Hlev, ⟨Hp0, Hp1⟩, ⟨Ht0, Ht1⟩, Hat, HO⟩
  iapply (wp_signal_to m K c _ false ((toDev_eq true c).trans rfl) (by decide) (owedL c allRx + tallyAt (cell (up true c) none) () 1)) $$ [Hp0 Ht0 HO]
  · isplitr; · iexact HR
    isplitl [Hp0]; · iexact Hp0
    isplitl [Ht0]; · iexact Ht0
    iexact HO
  iintro HO
  iapply (wp_signal_to m K c _ true ((toDev_eq false c).trans rfl) (by decide) (owedL c allRx)) $$ [Hp1 Ht1 HO]
  · isplitr; · iexact HR
    isplitl [Hp1]; · iexact Hp1
    isplitl [Ht1]; · iexact Ht1
    iexact HO
  iintro HO
  iapply (wp_barWait m K c (by decide) allRx allRx_lv) $$ [Hat HO]
  · isplitr; · iexact HR
    isplitr; · iexact Hlev
    isplitl [Hat]; · iexact Hat
    iexact HO
  iintro H
  rw [WP, wp_ret]; imodintro
  iexact H

/-! ## The loops -/

/-- A loop over the lanes, each step starting one transfer. -/
theorem wp_lanes (c : Dev nD) (f : Lane → Prog (Eff F) PUnit) (R R' : Lane → sProp 𝕄) (o : Lane → Rx) (n : ℕ)
    (hstep : ∀ y l, (∀ r ∈ [o y] ++ l, n < xlv (rx r)) →
      iprop(shared m K c ∗ R y ∗ owesE c (owedL c ([o y] ++ l))) ⊢ WP c (f y) (fun _ => iprop(shared m K c ∗ R' y ∗ owesE c (owedL c l))))
    (T : List Rx) (hT : ∀ r ∈ sds.map o ++ T, n < xlv (rx r)) :
      iprop(shared m K c ∗ B R ∗ owesE c (owedL c (sds.map o ++ T)))
        ⊢ WP c (forL f sds) (fun _ => iprop(shared m K c ∗ B R' ∗ owesE c (owedL c T))) := by
  rw [B, B, bigSep_univ_eq_bigSepL sds (by decide) (by decide) R, bigSep_univ_eq_bigSepL sds (by decide) (by decide) R']
  exact wp_forL m K c f R R' (fun y => [o y]) (fun r => n < xlv (rx r)) hstep T sds hT

/-- A loop over the lanes that starts no transfer, at the end. -/
theorem wp_lanes_end (c : Dev nD) (f : Lane → Prog (Eff F) PUnit) (R R' : Lane → sProp 𝕄)
    (hstep : ∀ y, iprop(shared m K c ∗ R y ∗ owesE c (owedL c [])) ⊢ WP c (f y) (fun _ => iprop(shared m K c ∗ R' y ∗ owesE c (owedL c [])))) :
      iprop(shared m K c ∗ B R ∗ owesE c (owedL c []))
        ⊢ WP c (forL f sds) (fun _ => iprop(shared m K c ∗ B R' ∗ owesE c (owedL c []))) := by
  rw [B, B, bigSep_univ_eq_bigSepL sds (by decide) (by decide) R, bigSep_univ_eq_bigSepL sds (by decide) (by decide) R']
  exact wp_forL m K c f R R' (fun y => []) (fun r => r ∈ ([] : List Rx))
    (fun y l hl => by
      cases l with
      | nil => exact hstep y
      | cons r l => exact absurd (hl r List.mem_cons_self) List.not_mem_nil) [] sds (fun r hr => hr)

/-- A loop followed by more. -/
theorem wp_seq (c : Dev nD) {p : Prog (Eff F) PUnit} {k : PUnit → Prog (Eff F) PUnit} {P : sProp 𝕄} {P' : PUnit → sProp 𝕄} {Q : PUnit → sProp 𝕄}
    (h : P ⊢ WP c p P') : P ⊢ iprop((P' ⟨⟩ -∗ WP c (k ⟨⟩) Q) -∗ WP c (p >>= k) Q) := by
  rw [show WP c (p >>= k) Q = WP c p (fun a => WP c (k a) Q) from wp_bind _ _ _ _ _ _]
  iintro HP Hk
  ihave Hw := h $$ HP
  iapply (wp_wand frame (wpE (defs₀ (F := F)) 𝒱₀ (c : Thread nD τ) none) Set.univ) $$ Hw
  iintro %u H
  iapply Hk
  iexact H

/-- A loop at the end. -/
theorem wp_last (c : Dev nD) {p : Prog (Eff F) PUnit} {P : sProp 𝕄} {P' : PUnit → sProp 𝕄} {Q : PUnit → sProp 𝕄}
    (h : P ⊢ WP c p P') : P ⊢ iprop((P' ⟨⟩ -∗ Q ⟨⟩) -∗ WP c p Q) := by
  iintro HP Hk
  ihave Hw := h $$ HP
  iapply (wp_wand frame (wpE (defs₀ (F := F)) 𝒱₀ (c : Thread nD τ) none) Set.univ) $$ Hw
  iintro %u H
  iapply Hk
  iexact H

/-- The loops, in program order. -/
def loops (c : Dev nD) : Prog (Eff F) PUnit := do
  forL (fun x => rsSend A₀ c 0 x.1 x.2) sds
  forL (rsStep A₀ c) hops2
  forL (lastStep A₀ c) sds
  forL (agStep A₀ c) hops2
  forL (fun x => agWait A₀ c 2 x.1 x.2) sds
  forL (doneStep A₀ c) hops3

/-- A cell's position, before its round. -/
abbrev at0 (c : Dev nD) (x : X) : sProp 𝕄 := atPos ER (cell c (some x)) 0 ∅ 0

/-- What the loops take. -/
def loopPre (c : Dev nD) : sProp 𝕄 :=
  iprop(((B fun y => accP c y.2 0 y.1 (accV m y.2 0 c y.1)) ∗ (B fun y => iprop(∃ V, accP (F := F) c y.2 1 y.1 V)) ∗ (B fun y => iprop(∃ V, accP (F := F) c y.2 2 y.1 V)))
    ∗ (B fun y => iprop(∃ V, outP (F := F) c y.2 c 0 y.1 V))
    ∗ ((B fun y => sendRs (F := F) c 0 y) ∗ (B fun y => sendRs (F := F) c 1 y) ∗ (B fun y => sendRs (F := F) c 2 y))
    ∗ ((B fun y => sendAg (F := F) c 0 y) ∗ (B fun y => sendAg (F := F) c 1 y) ∗ (B fun y => sendAg (F := F) c 2 y))
    ∗ ((B fun y => waitOn (F := F) c (1, 0, y)) ∗ (B fun y => waitOn (F := F) c (1, 1, y)) ∗ (B fun y => waitOn (F := F) c (1, 2, y)))
    ∗ ((B fun y => waitOn (F := F) c (3, 0, y)) ∗ (B fun y => waitOn (F := F) c (3, 1, y)) ∗ (B fun y => waitOn (F := F) c (3, 2, y)))
    ∗ ((B fun y => at0 (F := F) c (0, 0, y)) ∗ (B fun y => at0 (F := F) c (0, 1, y)) ∗ (B fun y => at0 (F := F) c (0, 2, y)))
    ∗ ((B fun y => at0 (F := F) c (2, 0, y)) ∗ (B fun y => at0 (F := F) c (2, 1, y)) ∗ (B fun y => at0 (F := F) c (2, 2, y))))

/-- A transfer cell's counter at zero. -/
abbrev zero (c : Dev nD) (x : X) : sProp 𝕄 := semVal (cell c (some x)) 0

/-- What they leave. -/
def loopPost (c : Dev nD) : sProp 𝕄 :=
  iprop(((B fun y => iprop(zero (F := F) c (1, 0, y) ∗ rcvP c y.2 0 y.1 (accV m y.2 0 (up y.2 c) y.1)))
      ∗ (B fun y => iprop(zero (F := F) c (1, 1, y) ∗ rcvP c y.2 1 y.1 (accV m y.2 1 (up y.2 c) y.1)))
      ∗ (B fun y => iprop(zero (F := F) c (1, 2, y) ∗ rcvP c y.2 2 y.1 (accV m y.2 2 (up y.2 c) y.1))))
    ∗ ((B fun y => zero (F := F) c (3, 0, y)) ∗ (B fun y => zero (F := F) c (3, 1, y)) ∗ (B fun y => gotPost m c y))
    ∗ ((B fun y => donePost m c 0 y) ∗ (B fun y => donePost m c 1 y) ∗ (B fun y => donePost m c 2 y)))

/-- The transfers after those of reduce hop `h`. -/
abbrev afterRs : ℕ → List Rx
  | 0 => sds.map (fun x => (false, 1, x)) ++ (sds.map (fun x => (false, 2, x)) ++ (sds.map (fun x => (true, 0, x)) ++ (sds.map (fun x => (true, 1, x)) ++ (sds.map (fun x => (true, 2, x)) ++ []))))
  | 1 => sds.map (fun x => (false, 2, x)) ++ (sds.map (fun x => (true, 0, x)) ++ (sds.map (fun x => (true, 1, x)) ++ (sds.map (fun x => (true, 2, x)) ++ [])))
  | _ => sds.map (fun x => (true, 0, x)) ++ (sds.map (fun x => (true, 1, x)) ++ (sds.map (fun x => (true, 2, x)) ++ []))
/-- The transfers after those of gather hop `g`. -/
abbrev afterAg : ℕ → List Rx
  | 0 => sds.map (fun x => (true, 1, x)) ++ (sds.map (fun x => (true, 2, x)) ++ [])
  | _ => sds.map (fun x => (true, 2, x)) ++ []

set_option maxHeartbeats 4000000 in
theorem wp_loops (c : Dev nD) :
    iprop(shared m K c ∗ loopPre m c ∗ owesE c (owedL c allRx))
      ⊢ WP c (loops c) (fun _ => iprop(shared m K c ∗ loopPost m c ∗ owesE c (owedL c []))) := by
  unfold loops loopPre
  rw [forL_append, forL_append, forL_append, forL_append]
  simp only [forL_map]
  simp only [bind_assoc]
  iintro ⟨HS, ⟨⟨Ha0, Ha1, Ha2⟩, Ho, ⟨Hr0, Hr1, Hr2⟩, ⟨Hg0, Hg1, Hg2⟩, ⟨Hw0, Hw1, Hw2⟩, ⟨Hv0, Hv1, Hv2⟩, ⟨Hp0, Hp1, Hp2⟩, ⟨Hq0, Hq1, Hq2⟩⟩, HO⟩
  -- the first transfers
  ihave HR := (B_join _ _) $$ [Ha0 Hr0]
  · isplitl [Ha0]; · iexact Ha0
    iexact Hr0
  iapply (wp_seq c (wp_lanes m K c _ _ _ (fun y => (false, 0, y)) 0 (fun y l _ => step_rsSend m K c y l) (afterRs 0) (by decide))) $$ [HS HR HO]
  · isplitl [HS]; · iexact HS
    isplitl [HR]; · iexact HR
    iexact HO
  iintro ⟨HS, Hc0, HO⟩
  -- the reduce hops before the last
  ihave HJ := (B_join _ _) $$ [Ha1 Hr1]
  · isplitl [Ha1]; · iexact Ha1
    iexact Hr1
  ihave HR := (B_join _ _) $$ [Hw0 HJ]
  · isplitl [Hw0]; · iexact Hw0
    iexact HJ
  iapply (wp_seq c (wp_lanes m K c _ _ _ (fun y => (false, 1, y)) 2 (fun y l hl => step_rs m K c 0 y l hl) (afterRs 1) (by decide))) $$ [HS HR HO]
  · isplitl [HS]; · iexact HS
    isplitl [HR]; · iexact HR
    iexact HO
  iintro ⟨HS, HP, HO⟩
  ihave HP := (B_split _ _) $$ HP
  icases HP with ⟨Hz0, Hc1⟩
  ihave HJ := (B_join _ _) $$ [Ha2 Hr2]
  · isplitl [Ha2]; · iexact Ha2
    iexact Hr2
  ihave HR := (B_join _ _) $$ [Hw1 HJ]
  · isplitl [Hw1]; · iexact Hw1
    iexact HJ
  iapply (wp_seq c (wp_lanes m K c _ _ _ (fun y => (false, 2, y)) 3 (fun y l hl => step_rs m K c 1 y l hl) (afterRs 2) (by decide))) $$ [HS HR HO]
  · isplitl [HS]; · iexact HS
    isplitl [HR]; · iexact HR
    iexact HO
  iintro ⟨HS, HP, HO⟩
  ihave HP := (B_split _ _) $$ HP
  icases HP with ⟨Hz1, Hc2⟩
  -- the last
  ihave HJ := (B_join _ _) $$ [Ho Hg0]
  · isplitl [Ho]; · iexact Ho
    iexact Hg0
  ihave HR := (B_join _ _) $$ [Hw2 HJ]
  · isplitl [Hw2]; · iexact Hw2
    iexact HJ
  iapply (wp_seq c (wp_lanes m K c _ _ _ (fun y => (true, 0, y)) 4 (fun y l hl => step_last m K c y l hl) (afterAg 0) (by decide))) $$ [HS HR HO]
  · isplitl [HS]; · iexact HS
    isplitl [HR]; · iexact HR
    iexact HO
  iintro ⟨HS, HP, HO⟩
  ihave HP := (B_split _ _) $$ HP
  icases HP with ⟨Hz2, Hd0⟩
  -- the gather hops
  ihave HR := (B_join _ _) $$ [Hv0 Hg1]
  · isplitl [Hv0]; · iexact Hv0
    iexact Hg1
  iapply (wp_seq c (wp_lanes m K c _ _ _ (fun y => (true, 1, y)) 5 (fun y l hl => step_ag m K c 0 y l hl) (afterAg 1) (by decide))) $$ [HS HR HO]
  · isplitl [HS]; · iexact HS
    isplitl [HR]; · iexact HR
    iexact HO
  iintro ⟨HS, HP, HO⟩
  ihave HP := (B_split _ _) $$ HP
  icases HP with ⟨Hx0, Hd1⟩
  ihave HR := (B_join _ _) $$ [Hv1 Hg2]
  · isplitl [Hv1]; · iexact Hv1
    iexact Hg2
  iapply (wp_seq c (wp_lanes m K c _ _ _ (fun y => (true, 2, y)) 6 (fun y l hl => step_ag m K c 1 y l hl) [] (by decide))) $$ [HS HR HO]
  · isplitl [HS]; · iexact HS
    isplitl [HR]; · iexact HR
    iexact HO
  iintro ⟨HS, HP, HO⟩
  ihave HP := (B_split _ _) $$ HP
  icases HP with ⟨Hx1, Hd2⟩
  irename Hv2 => HR
  iapply (wp_seq c (wp_lanes_end m K c _ _ _ fun y => step_got m K c y [] (by decide))) $$ [HS HR HO]
  · isplitl [HS]; · iexact HS
    isplitl [HR]; · iexact HR
    iexact HO
  iintro ⟨HS, Hx2, HO⟩
  -- the closing loop
  ihave HA := (B_join _ _) $$ [Hp0 Hc0]
  · isplitl [Hp0]; · iexact Hp0
    iexact Hc0
  ihave HB := (B_join _ _) $$ [Hq0 Hd0]
  · isplitl [Hq0]; · iexact Hq0
    iexact Hd0
  ihave HR := (B_join _ _) $$ [HA HB]
  · isplitl [HA]; · iexact HA
    iexact HB
  iapply (wp_seq c (wp_lanes_end m K c _ _ _ fun y => step_done m K c 0 y [] (by decide))) $$ [HS HR HO]
  · isplitl [HS]; · iexact HS
    isplitl [HR]; · iexact HR
    iexact HO
  iintro ⟨HS, He0, HO⟩
  ihave HA := (B_join _ _) $$ [Hp1 Hc1]
  · isplitl [Hp1]; · iexact Hp1
    iexact Hc1
  ihave HB := (B_join _ _) $$ [Hq1 Hd1]
  · isplitl [Hq1]; · iexact Hq1
    iexact Hd1
  ihave HR := (B_join _ _) $$ [HA HB]
  · isplitl [HA]; · iexact HA
    iexact HB
  iapply (wp_seq c (wp_lanes_end m K c _ _ _ fun y => step_done m K c 1 y [] (by decide))) $$ [HS HR HO]
  · isplitl [HS]; · iexact HS
    isplitl [HR]; · iexact HR
    iexact HO
  iintro ⟨HS, He1, HO⟩
  ihave HA := (B_join _ _) $$ [Hp2 Hc2]
  · isplitl [Hp2]; · iexact Hp2
    iexact Hc2
  ihave HB := (B_join _ _) $$ [Hq2 Hd2]
  · isplitl [Hq2]; · iexact Hq2
    iexact Hd2
  ihave HR := (B_join _ _) $$ [HA HB]
  · isplitl [HA]; · iexact HA
    iexact HB
  iapply (wp_last c (wp_lanes_end m K c _ _ _ fun y => step_done m K c 2 y [] (by decide))) $$ [HS HR HO]
  · isplitl [HS]; · iexact HS
    isplitl [HR]; · iexact HR
    iexact HO
  iintro ⟨HS, He2, HO⟩
  unfold loopPost
  isplitl [HS]; · iexact HS
  isplitr [HO]; rotate_left; · iexact HO
  isplitl [Hz0 Hz1 Hz2]
  · isplitl [Hz0]; · iexact Hz0
    isplitl [Hz1]; · iexact Hz1
    iexact Hz2
  isplitl [Hx0 Hx1 Hx2]
  · isplitl [Hx0]; · iexact Hx0
    isplitl [Hx1]; · iexact Hx1
    iexact Hx2
  isplitl [He0]; · iexact He0
  isplitl [He1]; · iexact He1
  iexact He2

end Cert.KernelIdeal.Ring

end
-- ==== Proof.KernelIdeal.Core.lean ====
/-
A device's body as a whole: what it starts from is cut into the pieces the loops take, and what the loops
leave is put together again.
-/
module

public import proofs.«01_k».proof.Proof.KernelIdeal.Body

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Option X → ℕ)

/-- A memref held whole, at some contents. -/
def some_ (c : Dev nD) {s : Shape} (b : Memref sig .tc .vmem s .f32) : sProp 𝕄 :=
  iprop(∃ V : Vec F s .f32, owns (Ix := Unit) (Name := ℕ) (U := UU) (Lvl := ℕ) (c : Thread nD τ) b fullShare V)

/-- Entailment under a resource for each index. -/
theorem each {ι : Type} [Fintype ι] {Φ Ψ : ι → sProp 𝕄} (h : ∀ i, Φ i ⊢ Ψ i) : bigSep Finset.univ Φ ⊢ bigSep Finset.univ Ψ :=
  bigSep_mono fun i _ => h i

/-! ## Cutting -/

theorem cut_acc (c : Dev nD) (d : Bool) :
    accOwn m c d ⊢ bigSep Finset.univ fun i : HS => iprop(∃ V, ⌜i.1 = 0 → V = accV m d 0 c i.2⌝ ∗ accP (F := F) c d i.1 i.2 V) := by
  unfold accOwn
  iintro ⟨%V, %hV, H⟩
  ihave H := (owns_cut (A₀.acc d) (fun i : HS => segRect i.1 i.2) (fun _ _ => rfl) segs_disjoint segs_cover c V) $$ H
  iapply (each (fun i : HS => by
    iintro H
    iexists fun x => V ((segRect i.1 i.2).emb x)
    isplitr
    · ipureintro
      obtain ⟨h, s⟩ := i
      rintro rfl
      funext x
      exact hV s x
    · unfold accP; iexact H :
    ∀ i : HS, owns (Ix := Unit) (Name := ℕ) (U := UU) (Lvl := ℕ) (c : Thread nD τ)
        ((A₀.acc d).slice (segRect i.1 i.2) (fun _ => rfl)) fullShare (fun x => V ((segRect i.1 i.2).emb x))
      ⊢ iprop(∃ V, ⌜i.1 = 0 → V = accV m d 0 c i.2⌝ ∗ accP (F := F) c d i.1 i.2 V)))
  iexact H

theorem cut_accs (c : Dev nD) : iprop(accOwn m c false ∗ accOwn m c true)
    ⊢ iprop((B fun y => accP c y.2 0 y.1 (accV m y.2 0 c y.1)) ∗ (B fun y => iprop(∃ V, accP (F := F) c y.2 1 y.1 V)) ∗ (B fun y => iprop(∃ V, accP (F := F) c y.2 2 y.1 V))) := by
  iintro ⟨H0, H1⟩
  ihave H := (Entails.of_eq (by_hop fun d h s => iprop(∃ V, ⌜h = 0 → V = accV m d 0 c s⌝ ∗ accP (F := F) c d h s V))) $$ [H0 H1]
  · isplitl [H0]
    · iapply (cut_acc m c false); iexact H0
    iapply (cut_acc m c true); iexact H1
  icases H with ⟨H0, H1, H2⟩
  isplitl [H0]
  · iapply (each (fun y => by
      iintro ⟨%V, %hV, H⟩
      rw [hV rfl]; iexact H : ∀ y : Lane, iprop(∃ V, ⌜(0 : Fin 3) = 0 → V = accV m y.2 0 c y.1⌝ ∗ accP (F := F) c y.2 0 y.1 V) ⊢ accP c y.2 0 y.1 (accV m y.2 0 c y.1)))
    iexact H0
  isplitl [H1]
  · iapply (each (fun y => by
      iintro ⟨%V, -, H⟩
      iexists V; iexact H : ∀ y : Lane, iprop(∃ V, ⌜(1 : Fin 3) = 0 → V = accV m y.2 0 c y.1⌝ ∗ accP (F := F) c y.2 1 y.1 V) ⊢ iprop(∃ V, accP (F := F) c y.2 1 y.1 V)))
    iexact H1
  · iapply (each (fun y => by
      iintro ⟨%V, -, H⟩
      iexists V; iexact H : ∀ y : Lane, iprop(∃ V, ⌜(2 : Fin 3) = 0 → V = accV m y.2 0 c y.1⌝ ∗ accP (F := F) c y.2 2 y.1 V) ⊢ iprop(∃ V, accP (F := F) c y.2 2 y.1 V)))
    iexact H2

theorem cut_rcv (c : Dev nD) (d : Bool) :
    some_ c (A₀.rcv d) ⊢ bigSep Finset.univ fun i : HS => iprop(∃ V, rcvP (F := F) c d i.1 i.2 V) := by
  unfold some_
  iintro ⟨%V, H⟩
  ihave H := (owns_cut (A₀.rcv d) (fun i : HS => segRect i.1 i.2) (fun _ _ => rfl) segs_disjoint segs_cover c V) $$ H
  iapply (each (fun i : HS => by
    iintro H
    iexists fun x => V ((segRect i.1 i.2).emb x)
    unfold rcvP; iexact H :
    ∀ i : HS, owns (Ix := Unit) (Name := ℕ) (U := UU) (Lvl := ℕ) (c : Thread nD τ)
        ((A₀.rcv d).slice (segRect i.1 i.2) (fun _ => rfl)) fullShare (fun x => V ((segRect i.1 i.2).emb x))
      ⊢ iprop(∃ V, rcvP (F := F) c d i.1 i.2 V)))
  iexact H

theorem cut_out (c : Dev nD) :
    some_ c A₀.out ⊢ bigSep Finset.univ fun i : Run => iprop(∃ V, outK (F := F) c i.1 c i.2.1 i.2.2 V) := by
  unfold some_
  iintro ⟨%V, H⟩
  ihave H := (owns_cut A₀.out (fun i : Run => qRect i.1 c i.2.1 i.2.2) (fun _ _ => rfl) (runs_disjoint c) (runs_cover c) c V) $$ H
  iapply (each (fun i : Run => by
    iintro H
    iexists fun x => V ((qRect i.1 c i.2.1 i.2.2).emb x)
    unfold outK; iexact H :
    ∀ i : Run, owns (Ix := Unit) (Name := ℕ) (U := UU) (Lvl := ℕ) (c : Thread nD τ)
        (A₀.out.slice (qRect i.1 c i.2.1 i.2.2) (fun _ => rfl)) fullShare (fun x => V ((qRect i.1 c i.2.1 i.2.2).emb x))
      ⊢ iprop(∃ V, outK (F := F) c i.1 c i.2.1 i.2.2 V)))
  iexact H

/-! ## The handshake's payments -/

omit [FloatOps F] in
theorem barPay_eq (c : Dev nD) (d : Bool) : barPay (F := F) c d
    = iprop((bigSep Finset.univ fun i : HS => iprop(∃ V, rcvP (F := F) (dn d c) d i.1 i.2 V))
      ∗ (bigSep Finset.univ fun i : HS => iprop(∃ V, outP (F := F) (dn d c) d c i.1 i.2 V))) := by
  rw [bigSep_univ_prod, bigSep_univ_prod]; rfl

omit [FloatOps F] in
theorem by_hop_succ (Φ : Bool → Fin 4 → Fin 4 → sProp 𝕄) :
    iprop((B fun y => Φ y.2 1 y.1) ∗ (B fun y => Φ y.2 2 y.1) ∗ (B fun y => Φ y.2 3 y.1))
      = iprop((bigSep Finset.univ fun i : HS => Φ false i.1.succ i.2) ∗ (bigSep Finset.univ fun i : HS => Φ true i.1.succ i.2)) :=
  (by_hop fun d (g : Fin 3) s => Φ d g.succ s).symm

/-- What a device pays its neighbours with. -/
theorem barPay_intro (c : Dev nD) :
    iprop(((bigSep Finset.univ fun i : HS => iprop(∃ V, rcvP (F := F) c false i.1 i.2 V)) ∗ (bigSep Finset.univ fun i : HS => iprop(∃ V, rcvP (F := F) c true i.1 i.2 V)))
      ∗ ((B fun y => iprop(∃ V, outK (F := F) c y.2 c 1 y.1 V)) ∗ (B fun y => iprop(∃ V, outK (F := F) c y.2 c 2 y.1 V)) ∗ (B fun y => iprop(∃ V, outK (F := F) c y.2 c 3 y.1 V))))
    ⊢ iprop(barPay (F := F) (up false c) false ∗ barPay (F := F) (up true c) true) := by
  rw [barPay_eq, barPay_eq, dn_up, dn_up]
  simp only [outP_land]
  iintro ⟨⟨H0, H1⟩, HB⟩
  ihave H := (Entails.of_eq (by_hop_succ fun d k s => iprop(∃ V, outK (F := F) c d c k s V))) $$ HB
  icases H with ⟨Ho0, Ho1⟩
  isplitl [H0 Ho0]
  · isplitl [H0]; · iexact H0
    iexact Ho0
  isplitl [H1]; · iexact H1
  iexact Ho1

/-- What it is paid. -/
theorem barPay_elim (c : Dev nD) :
    iprop(barPay (F := F) c false ∗ barPay (F := F) c true)
    ⊢ iprop(((B fun y => iprop(∃ V, rcvP (F := F) (dn y.2 c) y.2 0 y.1 V)) ∗ (B fun y => iprop(∃ V, rcvP (F := F) (dn y.2 c) y.2 1 y.1 V)) ∗ (B fun y => iprop(∃ V, rcvP (F := F) (dn y.2 c) y.2 2 y.1 V)))
      ∗ ((B fun y => iprop(∃ V, outP (F := F) (dn y.2 c) y.2 c 0 y.1 V)) ∗ (B fun y => iprop(∃ V, outP (F := F) (dn y.2 c) y.2 c 1 y.1 V)) ∗ (B fun y => iprop(∃ V, outP (F := F) (dn y.2 c) y.2 c 2 y.1 V)))) := by
  rw [barPay_eq, barPay_eq]
  iintro ⟨⟨H0, Ho0⟩, H1, Ho1⟩
  isplitl [H0 H1]
  · iapply (Entails.of_eq (by_hop fun d h s => iprop(∃ V, rcvP (F := F) (dn d c) d h s V)))
    isplitl [H0]; · iexact H0
    iexact H1
  iapply (Entails.of_eq (by_hop fun d h s => iprop(∃ V, outP (F := F) (dn d c) d c h s V)))
  isplitl [Ho0]; · iexact Ho0
  iexact Ho1

/-! ## Putting together -/

theorem join_acc (c : Dev nD) (d : Bool) :
    (bigSep Finset.univ fun i : HS => accP c d i.1 i.2 (accV m d i.1 c i.2)) ⊢ some_ (F := F) c (A₀.acc d) := by
  unfold accP some_
  iintro H
  ihave H := (owns_join (A₀.acc d) (fun i : HS => segRect i.1 i.2) (fun _ _ => rfl) segs_disjoint segs_cover c (m _) (fun i => accV m d i.1 c i.2)) $$ H
  icases H with ⟨%V, -, H⟩
  iexists V; iexact H

theorem join_rcv (c : Dev nD) (d : Bool) :
    (bigSep Finset.univ fun i : HS => rcvP c d i.1 i.2 (accV m d i.1 (up d c) i.2)) ⊢ some_ (F := F) c (A₀.rcv d) := by
  unfold rcvP some_
  iintro H
  ihave H := (owns_join (A₀.rcv d) (fun i : HS => segRect i.1 i.2) (fun _ _ => rfl) segs_disjoint segs_cover c (m _) (fun i => accV m d i.1 (up d c) i.2)) $$ H
  icases H with ⟨%V, -, H⟩
  iexists V; iexact H

theorem join_out (c : Dev nD) :
    (bigSep Finset.univ fun i : Run => outK c i.1 c i.2.1 i.2.2 (finV m i.1 (src i.1 i.2.1.val c) i.2.2))
      ⊢ owns (Ix := Unit) (Name := ℕ) (U := UU) (Lvl := ℕ) (c : Thread nD τ) A₀.out fullShare (outF m) := by
  unfold outK
  iintro H
  ihave H := (owns_join A₀.out (fun i : Run => qRect i.1 c i.2.1 i.2.2) (fun _ _ => rfl) (runs_disjoint c) (runs_cover c) c (m _)
    (fun i => finV m i.1 (src i.1 i.2.1.val c) i.2.2)) $$ H
  icases H with ⟨%V, %hV, H⟩
  have e : V = outF m := by
    funext x
    obtain ⟨i, hi⟩ := runs_cover c x
    rw [← Rect.map_emb_univ] at hi
    obtain ⟨j, -, rfl⟩ := Finset.mem_map.mp hi
    exact (hV i j).trans (outF_run m i.1 c i.2.1 i.2.2 j).symm
  rw [e]
  iexact H

/-- What the loops leave, put together. -/
theorem loopPost_elim (c : Dev nD) :
    loopPost m c ⊢ iprop((bigSep Finset.univ fun x => zero (F := F) c x)
      ∗ (some_ (F := F) c (A₀.acc false) ∗ some_ (F := F) c (A₀.acc true)) ∗ (some_ (F := F) c (A₀.rcv false) ∗ some_ (F := F) c (A₀.rcv true))
      ∗ owns (Ix := Unit) (Name := ℕ) (U := UU) (Lvl := ℕ) (c : Thread nD τ) A₀.out fullShare (outF m)) := by
  unfold loopPost
  rw [by_kind]
  iintro ⟨⟨H0, H1, H2⟩, ⟨Hx0, Hx1, H3⟩, ⟨He0, He1, He2⟩⟩
  ihave H := (B_split _ _) $$ H0; icases H with ⟨Hz0, Hv0⟩
  ihave H := (B_split _ _) $$ H1; icases H with ⟨Hz1, Hv1⟩
  ihave H := (B_split _ _) $$ H2; icases H with ⟨Hz2, Hv2⟩
  ihave H := (B_split _ _) $$ H3; icases H with ⟨Hx2, Ho3⟩
  ihave H := (B_split _ _) $$ He0; icases H with ⟨Ha0, Hb0⟩
  ihave H := (B_split _ _) $$ Ha0; icases H with ⟨Hy0, Ha0⟩
  ihave H := (B_split _ _) $$ Hb0; icases H with ⟨Hw0, Ho0⟩
  ihave H := (B_split _ _) $$ He1; icases H with ⟨Ha1, Hb1⟩
  ihave H := (B_split _ _) $$ Ha1; icases H with ⟨Hy1, Ha1⟩
  ihave H := (B_split _ _) $$ Hb1; icases H with ⟨Hw1, Ho1⟩
  ihave H := (B_split _ _) $$ He2; icases H with ⟨Ha2, Hb2⟩
  ihave H := (B_split _ _) $$ Ha2; icases H with ⟨Hy2, Ha2⟩
  ihave H := (B_split _ _) $$ Hb2; icases H with ⟨Hw2, Ho2⟩
  isplitl [Hz0 Hz1 Hz2 Hx0 Hx1 Hx2 Hy0 Hy1 Hy2 Hw0 Hw1 Hw2]
  · isplitl [Hy0 Hy1 Hy2]
    · isplitl [Hy0]; · iexact Hy0
      isplitl [Hy1]; · iexact Hy1
      iexact Hy2
    isplitl [Hz0 Hz1 Hz2]
    · isplitl [Hz0]; · iexact Hz0
      isplitl [Hz1]; · iexact Hz1
      iexact Hz2
    isplitl [Hw0 Hw1 Hw2]
    · isplitl [Hw0]; · iexact Hw0
      isplitl [Hw1]; · iexact Hw1
      iexact Hw2
    isplitl [Hx0]; · iexact Hx0
    isplitl [Hx1]; · iexact Hx1
    iexact Hx2
  isplitl [Ha0 Ha1 Ha2]
  · ihave H := (Entails.of_eq (by_hop fun d h s => accP (F := F) c d h s (accV m d h c s)).symm) $$ [Ha0 Ha1 Ha2]
    · isplitl [Ha0]; · iexact Ha0
      isplitl [Ha1]; · iexact Ha1
      iexact Ha2
    icases H with ⟨H0, H1⟩
    isplitl [H0]; · iapply (join_acc m c false); iexact H0
    iapply (join_acc m c true); iexact H1
  isplitl [Hv0 Hv1 Hv2]
  · ihave H := (Entails.of_eq (by_hop fun d h s => rcvP (F := F) c d h s (accV m d h (up d c) s)).symm) $$ [Hv0 Hv1 Hv2]
    · isplitl [Hv0]; · iexact Hv0
      isplitl [Hv1]; · iexact Hv1
      iexact Hv2
    icases H with ⟨H0, H1⟩
    isplitl [H0]; · iapply (join_rcv m c false); iexact H0
    iapply (join_rcv m c true); iexact H1
  iapply (join_out m c)
  rw [by_run fun d k s => outK (F := F) c d c k s (finV m d (src d k.val c) s)]
  isplitl [Ho0]
  · simp only [outP_send, agV_src]; iexact Ho0
  isplitl [Ho1]
  · simp only [outP_send, agV_src]; iexact Ho1
  isplitl [Ho2]
  · simp only [outP_send, agV_src]; iexact Ho2
  simp only [outP_land, agV_src]; iexact Ho3

end Cert.KernelIdeal.Ring

end
-- ==== Proof.KernelIdeal.Device.lean ====
/-
A device's run from the launch to the end: the start, the handshake and the loops composed, then stated as the
pipeline library's obligation on the body.
-/
module

public import proofs.«01_k».proof.Proof.KernelIdeal.Core

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)
variable (K : Dev nD × Option X → ℕ)

/-! ## What a device starts from -/

/-- The cell whose duty device `c` pays with transfer semaphore `x`: its own for a send side, its neighbour's
    for a receive side. -/
abbrev payCell (c : Dev nD) (x : X) : GSem nD τ sig :=
  match x.1 with
  | 0 => cell c (some x)
  | 1 => cell (dn x.2.2.2 c) (some x)
  | 2 => cell c (some x)
  | 3 => cell (dn x.2.2.2 c) (some x)

/-- The positions of device `c` at its cells and the tokens of the duties it pays. -/
def linear (c : Dev nD) : sProp 𝕄 :=
  iprop((atPos ER (cell c none) 0 ∅ 0 ∗ bigSep Finset.univ fun x => at0 (F := F) c x)
    ∗ (dutyTok ER (cell (up false c) none) 0 false ∗ dutyTok ER (cell (up true c) none) 0 true)
    ∗ bigSep Finset.univ fun x => dutyTok ER (payCell c x) 0 false)

/-- The credits device `c` waits with: its barrier's and every landing's. -/
def creds (c : Dev nD) : sProp 𝕄 :=
  iprop(cred (tallyAt (cell c none) () 2) ∗ bigSep Finset.univ fun r : Rx => cred (tallyAt (cell c (some (rx r))) () N))

/-- The resources of one lane put side by side, at three hops. -/
theorem join3 (Φ₀ Φ₁ Φ₂ Ψ₀ Ψ₁ Ψ₂ : Lane → sProp 𝕄) :
    iprop((B Φ₀ ∗ B Φ₁ ∗ B Φ₂) ∗ (B Ψ₀ ∗ B Ψ₁ ∗ B Ψ₂))
      ⊢ iprop((B fun y => iprop(Φ₀ y ∗ Ψ₀ y)) ∗ (B fun y => iprop(Φ₁ y ∗ Ψ₁ y)) ∗ (B fun y => iprop(Φ₂ y ∗ Ψ₂ y))) := by
  iintro ⟨⟨H0, H1, H2⟩, G0, G1, G2⟩
  isplitl [H0 G0]
  · iapply (B_join Φ₀ Ψ₀); isplitl [H0]; · iexact H0
    iexact G0
  isplitl [H1 G1]
  · iapply (B_join Φ₁ Ψ₁); isplitl [H1]; · iexact H1
    iexact G1
  iapply (B_join Φ₂ Ψ₂); isplitl [H2]; · iexact H2
  iexact G2

/-- Everything the transfers and the waits take, sorted by hop. -/
theorem arm (c : Dev nD) :
    iprop((bigSep Finset.univ fun x => at0 (F := F) c x) ∗ (bigSep Finset.univ fun x => dutyTok ER (payCell c x) 0 false)
      ∗ (bigSep Finset.univ fun r : Rx => cred (tallyAt (cell c (some (rx r))) () N))
      ∗ (barPay (F := F) c false ∗ barPay (F := F) c true))
    ⊢ iprop(((B fun y => sendRs (F := F) c 0 y) ∗ (B fun y => sendRs (F := F) c 1 y) ∗ (B fun y => sendRs (F := F) c 2 y))
      ∗ ((B fun y => sendAg (F := F) c 0 y) ∗ (B fun y => sendAg (F := F) c 1 y) ∗ (B fun y => sendAg (F := F) c 2 y))
      ∗ ((B fun y => waitOn (F := F) c (1, 0, y)) ∗ (B fun y => waitOn (F := F) c (1, 1, y)) ∗ (B fun y => waitOn (F := F) c (1, 2, y)))
      ∗ ((B fun y => waitOn (F := F) c (3, 0, y)) ∗ (B fun y => waitOn (F := F) c (3, 1, y)) ∗ (B fun y => waitOn (F := F) c (3, 2, y)))
      ∗ ((B fun y => at0 (F := F) c (0, 0, y)) ∗ (B fun y => at0 (F := F) c (0, 1, y)) ∗ (B fun y => at0 (F := F) c (0, 2, y)))
      ∗ ((B fun y => at0 (F := F) c (2, 0, y)) ∗ (B fun y => at0 (F := F) c (2, 1, y)) ∗ (B fun y => at0 (F := F) c (2, 2, y)))) := by
  iintro ⟨Ha, Ht, Hc, Hp⟩
  ihave Ha := (Entails.of_eq (by_kind fun x => at0 (F := F) c x)) $$ Ha
  icases Ha with ⟨Ha0, Ha1, Ha2, Ha3⟩
  ihave Ht := (Entails.of_eq (by_kind fun x => (dutyTok ER (payCell c x) 0 false : sProp 𝕄))) $$ Ht
  icases Ht with ⟨Ht0, Ht1, Ht2, Ht3⟩
  ihave Hc := (Entails.of_eq (by_rx fun r => (cred (tallyAt (cell c (some (rx r))) () N) : sProp 𝕄))) $$ Hc
  icases Hc with ⟨Hc1, Hc3⟩
  ihave Hp := (barPay_elim c) $$ Hp
  icases Hp with ⟨Hr, Ho⟩
  isplitl [Ht0 Ht1 Hr]
  · iapply (join3 _ _ _ _ _ _)
    isplitl [Ht0]; · iexact Ht0
    iapply (join3 _ _ _ _ _ _)
    isplitl [Ht1]; · iexact Ht1
    iexact Hr
  isplitl [Ht2 Ht3 Ho]
  · iapply (join3 _ _ _ _ _ _)
    isplitl [Ht2]; · iexact Ht2
    iapply (join3 _ _ _ _ _ _)
    isplitl [Ht3]; · iexact Ht3
    iexact Ho
  isplitl [Ha1 Hc1]
  · iapply (join3 _ _ _ _ _ _)
    isplitl [Ha1]; · iexact Ha1
    iexact Hc1
  isplitl [Ha3 Hc3]
  · iapply (join3 _ _ _ _ _ _)
    isplitl [Ha3]; · iexact Ha3
    iexact Hc3
  isplitl [Ha0]; · iexact Ha0
  iexact Ha2

/-! ## The run of the body -/

/-- The scratch buffers, at any contents. -/
def scratch (c : Dev nD) : sProp 𝕄 :=
  iprop((some_ (F := F) c (A₀.acc false) ∗ some_ (F := F) c (A₀.acc true)) ∗ (some_ (F := F) c (A₀.rcv false) ∗ some_ (F := F) c (A₀.rcv true)))

/-- What the handshake takes from the landing buffers and the result, and the rows of the result that stay. -/
theorem offer (c : Dev nD) :
    iprop((some_ (F := F) c (A₀.rcv false) ∗ some_ (F := F) c (A₀.rcv true)) ∗ some_ (F := F) c A₀.out)
      ⊢ iprop((barPay (F := F) (up false c) false ∗ barPay (F := F) (up true c) true) ∗ (B fun y => iprop(∃ V, outP (F := F) c y.2 c 0 y.1 V))) := by
  iintro ⟨⟨H0, H1⟩, Ho⟩
  ihave H0 := (cut_rcv c false) $$ H0
  ihave H1 := (cut_rcv c true) $$ H1
  ihave Ho := (cut_out c) $$ Ho
  ihave Ho := (Entails.of_eq (by_run fun d k s => iprop(∃ V, outK (F := F) c d c k s V))) $$ Ho
  icases Ho with ⟨Ho0, Ho⟩
  isplitr [Ho0]
  · iapply (barPay_intro c)
    isplitl [H0 H1]
    · isplitl [H0]; · iexact H0
      iexact H1
    iexact Ho
  · simp only [outP_send]; iexact Ho0

/-- Device `c`'s run: from its blocks, the buffers at any contents and its part of the protocol, to the result
    whole, the buffers back, every counter of its own at zero and nothing owed. -/
theorem sound_device (c : Dev nD) :
    iprop((records m K ∗ levAts L lv) ∗ inp m c ∗ some_ (F := F) c A₀.out ∗ scratch (F := F) c ∗ linear (F := F) c ∗ creds (F := F) c ∗ owesE c (O₀ c))
      ⊢ WP c (loopBody A₀) (fun _ => iprop(inp m c ∗ owns (Ix := Unit) (Name := ℕ) (U := UU) (Lvl := ℕ) (c : Thread nD τ) A₀.out fullShare (outF m)
          ∗ scratch (F := F) c ∗ (bigSep Finset.univ fun x => zero (F := F) c x) ∗ semVal (cell c none) 0 ∗ owesE c 0)) := by
  unfold loopBody scratch linear creds
  simp only [Prog.lift, Prog.bind_op, Prog.bind_ret, WP, wp_deviceId]
  iintro ⟨⟨#HR, #Hlev⟩, HI, Hout, ⟨⟨Ha0, Ha1⟩, Hrcv⟩, ⟨⟨HatB, Hat⟩, HtB, Ht⟩, ⟨HcB, Hc⟩, HO⟩
  ihave Ha0 := (Entails.of_eq (show some_ (F := F) c (A₀.acc false) = iprop(∃ V : Vec F S3x256x2048 .f32, owns (Ix := Unit) (Name := ℕ) (U := UU) (Lvl := ℕ) (c : Thread nD τ) (A₀.acc false) fullShare V) from rfl)) $$ Ha0
  ihave Ha1 := (Entails.of_eq (show some_ (F := F) c (A₀.acc true) = iprop(∃ V : Vec F S3x256x2048 .f32, owns (Ix := Unit) (Name := ℕ) (U := UU) (Lvl := ℕ) (c : Thread nD τ) (A₀.acc true) fullShare V) from rfl)) $$ Ha1
  icases Ha0 with ⟨%V₀, Ha0⟩
  icases Ha1 with ⟨%V₁, Ha1⟩
  -- the start
  iapply (wp_seq c (step_init m c V₀ V₁)) $$ [HI Ha0 Ha1]
  · isplitl [HI]; · iexact HI
    isplitl [Ha0]; · iexact Ha0
    iexact Ha1
  iintro ⟨HI, Hacc⟩
  ihave Hacc := (cut_accs m c) $$ Hacc
  -- the handshake
  ihave Hof := (offer c) $$ [Hrcv Hout]
  · isplitl [Hrcv]; · iexact Hrcv
    iexact Hout
  icases Hof with ⟨Hbp, Hown⟩
  iapply (wp_seq c (step_bar m K c)) $$ [Hbp HtB HatB HcB HO]
  · isplitr; · iexact HR
    isplitr; · iexact Hlev
    isplitl [Hbp]; · iexact Hbp
    isplitl [HtB]; · iexact HtB
    isplitl [HatB HcB]
    · isplitl [HatB]; · iexact HatB
      iexact HcB
    iexact HO
  iintro ⟨Hbp, HzB, HO⟩
  ihave Hrest := (arm c) $$ [Hat Ht Hc Hbp]
  · isplitl [Hat]; · iexact Hat
    isplitl [Ht]; · iexact Ht
    isplitl [Hc]; · iexact Hc
    iexact Hbp
  -- the loops
  iapply (wp_last c (wp_loops m K c)) $$ [HI Hacc Hown Hrest HO]
  · isplitl [HI]
    · unfold shared
      isplitr
      · isplitr; · iexact HR
        iexact Hlev
      iexact HI
    isplitr [HO]; rotate_left; · iexact HO
    unfold loopPre
    isplitl [Hacc]; · iexact Hacc
    isplitl [Hown]; · iexact Hown
    iexact Hrest
  iintro ⟨HS, HP, HO⟩
  unfold shared
  icases HS with ⟨-, HI⟩
  ihave HP := (loopPost_elim m c) $$ HP
  icases HP with ⟨Hz, Ha, Hr, Ho⟩
  isplitl [HI]; · iexact HI
  isplitl [Ho]; · iexact Ho
  isplitl [Ha Hr]
  · isplitl [Ha]; · iexact Ha
    iexact Hr
  isplitl [Hz]; · iexact Hz
  isplitl [HzB]; · iexact HzB
  iexact HO

end Cert.KernelIdeal.Ring

end
-- ==== Proof.KernelIdeal.Launch.lean ====
/-
The launch: the pipeline library's obligation on the body from a device's run, the cells' ghost state dealt to
the devices, the credits, and the run of the whole program.
-/
module

public import proofs.«01_k».proof.Proof.KernelIdeal.Device
public import proofs.«01_k».proof.Proof.Gen.KernelIdeal.Launch
public import proofs.«01_k».proof.Proof.Gen.KernelIdeal.Points
public import Idealize.ShloMosaic.Lib.Pipeline.CollectiveSegs
public import Idealize.ShloMosaic.Lib.Pipeline.Value

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## The proof data of the region -/

/-- What device `c`'s body starts from beside the buffers. -/
def start (c : Dev nD) : sProp 𝕄 :=
  iprop((∃ K, records m K ∗ linear (F := F) c) ∗ creds (F := F) c ∗ levAts L lv)

def Φ₀ (c : Dev nD) : sProp 𝕄 := iprop(start m c ∗ scratch (F := F) c)
/-- After the body: the scratch buffers, and every counter of the device's cells at zero. -/
def Φ₁ (c : Dev nD) : sProp 𝕄 :=
  iprop(scratch (F := F) c ∗ (bigSep Finset.univ fun x => zero (F := F) c x) ∗ semVal (cell c none) 0)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m c
    | ⟨1, _⟩ => wstg m c
    | ⟨2, _⟩ => outF m
  Φ t := match t with
    | ⟨0, _⟩ => Φ₀ m c
    | ⟨_ + 1, _⟩ => Φ₁ c
  q _ := fullShare
  owed t := match t with
    | ⟨0, _⟩ => O₀ c
    | ⟨_ + 1, _⟩ => 0

omit [FloatOps F] in
theorem owns_whole_eq (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) (((c : Dev nD) : Thread nD τ).loc b), ⌜f = V⌝ ∗ (((c : Thread nD τ).loc b) ↦{fullShare} f)) := by
  unfold owns; simp only [Memref.view_whole, View.read_whole, View.set_whole]

omit [FloatOps F] in
theorem some_whole_to (c : Dev nD) (b : Ref sig .tc) :
    iprop(∃ V : b.ty.Contents (Elt F), owns (Ix := Unit) (Name := ℕ) (U := UU) (Lvl := ℕ) (c : Thread nD τ) (Memref.whole b) fullShare V)
      ⊢ (iprop(∃ f : Buf (Elt F) ((c : Thread nD τ).loc b), ((c : Thread nD τ).loc b) ↦{fullShare} f) : sProp 𝕄) := by
  iintro ⟨%V, H⟩
  ihave H := (Entails.of_eq (owns_whole_eq c b V)) $$ H
  icases H with ⟨%f, -, H⟩
  iexists f; iexact H

omit [FloatOps F] in
theorem some_whole_of (c : Dev nD) (b : Ref sig .tc) :
    (iprop(∃ f : Buf (Elt F) ((c : Thread nD τ).loc b), ((c : Thread nD τ).loc b) ↦{fullShare} f) : sProp 𝕄)
      ⊢ iprop(∃ V : b.ty.Contents (Elt F), owns (Ix := Unit) (Name := ℕ) (U := UU) (Lvl := ℕ) (c : Thread nD τ) (Memref.whole b) fullShare V) := by
  iintro ⟨%f, H⟩
  iexists f
  iapply (Entails.of_eq (owns_whole_eq c b f).symm)
  iexists f
  isplitr; · ipureintro; rfl
  iexact H

omit [FloatOps F] in
/-- A whole buffer at some contents, as a points-to. -/
theorem some_whole (c : Dev nD) (b : Ref sig .tc) :
    iprop(∃ V : b.ty.Contents (Elt F), owns (Ix := Unit) (Name := ℕ) (U := UU) (Lvl := ℕ) (c : Thread nD τ) (Memref.whole b) fullShare V)
      = (iprop(∃ f : Buf (Elt F) ((c : Thread nD τ).loc b), ((c : Thread nD τ).loc b) ↦{fullShare} f) : sProp 𝕄) :=
  Entails.antisymm (some_whole_to c b) (some_whole_of c b)

/-- The scratch buffers are the region's scoped rest. -/
theorem scratch_eq (c : Dev nD) : scratch (F := F) c
    = iprop(((∃ f : Buf (Elt F) ((c : Thread nD τ).loc cc0_scratch0), ((c : Thread nD τ).loc cc0_scratch0) ↦{fullShare} f)
        ∗ (∃ f : Buf (Elt F) ((c : Thread nD τ).loc cc0_scratch1), ((c : Thread nD τ).loc cc0_scratch1) ↦{fullShare} f))
      ∗ (∃ f : Buf (Elt F) ((c : Thread nD τ).loc cc0_scratch2), ((c : Thread nD τ).loc cc0_scratch2) ↦{fullShare} f)
        ∗ (∃ f : Buf (Elt F) ((c : Thread nD τ).loc cc0_scratch3), ((c : Thread nD τ).loc cc0_scratch3) ↦{fullShare} f)) := by
  rw [← some_whole c cc0_scratch0, ← some_whole c cc0_scratch1, ← some_whole c cc0_scratch2, ← some_whole c cc0_scratch3]
  rfl

/-! ## The body obligation -/

/-- A staging buffer at contents `V`, in the obligation's form. -/
abbrev stg (c : Dev nD) (b : Ref sig .tc) (V : b.ty.Contents (Elt F)) : sProp 𝕄 :=
  iprop(∃ f : Buf (Elt F) (((c : Dev nD) : Thread nD τ).loc b), ⌜f = V⌝ ∗ (((c : Thread nD τ).loc b) ↦{fullShare} f))

def bodyPre (c : Dev nD) : sProp 𝕄 :=
  iprop(Φ₀ m c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

def bodyPost (c : Dev nD) : sProp 𝕄 :=
  iprop(Φ₁ (F := F) c ∗ (dats m ρ 0 c).owesAt () t0_0.succ ∗ stg c cc0_stg0_0 (xstg m c) ∗ stg c cc0_stg1_0 (wstg m c) ∗ stg c cc0_stg2_0 (outF m))

/-- The body, from what the pipeline hands it to what it takes back. -/
theorem sound_body (c : Dev nD) : bodyPre m ρ c ⊢ WP c (loopBody A₀) (fun _ => bodyPost m ρ c) := by
  unfold bodyPre Φ₀ start Dat.owesAt Pipeline.owesWithin
  rw [show (dats m ρ 0 c).owed t0_0.castSucc = O₀ c from rfl]
  iintro ⟨⟨⟨⟨%K, #HR, Hlin⟩, Hcr, #Hlev⟩, Hscr⟩, ⟨%W, %hW, HO⟩, ⟨%d0, %g0, %hg0, Hx⟩, ⟨%d1, %g1, %hg1, Hw⟩, ⟨%d2, %g2, %hg2, Hout⟩⟩
  have hx : g0 = xstg m c := by rw [hg0]; unfold Dat.before; rw [if_pos (fetch0_0 t0_0)]; rfl
  have hw : g1 = wstg m c := by rw [hg1]; unfold Dat.before; rw [if_pos (fetch0_1 t0_0)]; rfl
  subst hx
  subst hw
  iapply (wp_last c (sound_device m K c)) $$ [Hlin Hcr Hscr HO Hx Hw Hout]
  · isplitr
    · isplitr; · iexact HR
      iexact Hlev
    isplitl [Hx Hw]
    · unfold inp
      isplitl [Hx]; · iexact Hx
      iexact Hw
    isplitl [Hout]
    · ihave Ho := (some_whole_of (F := F) c cc0_stg2_0) $$ [Hout]
      · iexists g2; iexact Hout
      unfold some_; iexact Ho
    isplitl [Hscr]; · iexact Hscr
    isplitl [Hlin]; · iexact Hlin
    isplitl [Hcr]; · iexact Hcr
    unfold owesE; iexists W; iexact HO
  iintro ⟨HI, Ho, Hscr, Hz, HzB, HO⟩
  unfold inp owesE
  icases HI with ⟨Hx, Hw⟩
  icases HO with ⟨%W', HO⟩
  unfold bodyPost Φ₁ Dat.owesAt Pipeline.owesWithin
  rw [show (dats m ρ 0 c).owed t0_0.succ = 0 from rfl]
  isplitl [Hscr Hz HzB]
  · isplitl [Hscr]; · iexact Hscr
    isplitl [Hz]; · iexact Hz
    iexact HzB
  isplitl [HO]
  · iexists W'
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  iapply (Entails.of_eq (owns_whole_eq (F := F) c cc0_stg2_0 (outF m)))
  iexact Ho

set_option maxRecDepth 16000 in
/-- The library's body obligation on core `c`. -/
theorem body_obligation (c : Dev nD) : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 3) ∗ Φ (1 : Fin 3) ∗ Φ (2 : Fin 3)) from bigSep_W0,
    show ∀ Φ : Fin cfg0.W → sProp 𝕄, bigSep Finset.univ Φ = iprop(Φ (0 : Fin 3) ∗ Φ (1 : Fin 3) ∗ Φ (2 : Fin 3)) from bigSep_W0]
  simp only [owns_whole_eq]
  show bodyPre m ρ c ⊢ wp frame (wpE (defs₀ (F := F)) 𝒱₀ c none) Set.univ (bodyAt0 t0_0) (fun _ => bodyPost m ρ c)
  rw [bodyAt0, cc0_body_eq]
  exact sound_body m ρ c

end Cert.KernelIdeal.Ring

end
-- ==== Proof.KernelIdeal.Run.lean ====
/-
The run of the whole program: the cells' ghost state minted and dealt to the devices, the credits of the launch,
and the run itself, every device's result named.
-/
module

public import proofs.«01_k».proof.Proof.KernelIdeal.Launch

@[expose] public section

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
/-! ## Semaphores and cells -/

/-- The kernel's own semaphores. -/
abbrev osem : X → SemLoc sig := fun x => .dma (xsem x)

theorem stage_sem_lt : ∀ (w : Fin cfg0.W) (s : Fin (cfg0.spec w).nbuf), ((cfg0.spec w).sem s).val < 3 := by decide

theorem ownSemFacts : Pipeline.OwnSemFacts cfg0.spec osem where
  isScoped x := by revert x; decide
  inj x y h := xsem_injective (SemLoc.dma.inj h)
  disj x w s h := by
    have h1 : xsem x = (cfg0.spec w).sem s := SemLoc.dma.inj h
    have h2 := stage_sem_lt w s
    have h3 := xsem_ge x
    rw [h1] at h3
    omega

theorem share_eq (c : Dev nD) (w : Fin cfg0.W) : (dats m ρ 0 c).share w = fullShare := by unfold Dat.share; split <;> rfl

theorem csem_injective : Function.Injective csem := by
  intro a b h
  cases a with
  | none => cases b with
    | none => rfl
    | some y => cases h
  | some x => cases b with
    | none => cases h
    | some y => exact congrArg some (xsem_injective (SemLoc.dma.inj h))

theorem cell_injective : Function.Injective (fun ck : Dev nD × Option X => cell ck.1 ck.2) := by
  rintro ⟨c, k⟩ ⟨c', k'⟩ h
  have h1 : c = c' := congrArg (fun g : GSem nD τ sig => g.1.1) h
  have h2 : k = k' := csem_injective (congrArg Prod.snd h)
  rw [h1, h2]

/-- Every cell of the protocol. -/
def ringCells : Finset (GSem nD τ sig) := Finset.univ.map ⟨fun ck : Dev nD × Option X => cell ck.1 ck.2, cell_injective⟩

/-- A device's own cells' duties: its barrier's two and one for each transfer semaphore. -/
abbrev tokOf (cj : Dev nD × (Bool ⊕ X)) : GSem nD τ sig × ℕ × Bool :=
  match cj.2 with
  | .inl d => (cell cj.1 none, 0, d)
  | .inr x => (cell cj.1 (some x), 0, false)

theorem tokOf_injective : Function.Injective tokOf := by
  rintro ⟨c, j⟩ ⟨c', j'⟩ h
  have h1 : c = c' := by
    have := congrArg (fun t : GSem nD τ sig × ℕ × Bool => t.1.1.1) h
    cases j <;> cases j' <;> exact this
  subst h1
  cases j with
  | inl d => cases j' with
    | inl d' => rw [show d = d' from congrArg (fun t : GSem nD τ sig × ℕ × Bool => t.2.2) h]
    | inr x' => exact absurd (csem_injective (a₁ := none) (a₂ := some x') (congrArg (fun t : GSem nD τ sig × ℕ × Bool => t.1.2) h)) (by simp)
  | inr x => cases j' with
    | inl d' => exact absurd (csem_injective (a₁ := some x) (a₂ := none) (congrArg (fun t : GSem nD τ sig × ℕ × Bool => t.1.2) h)) (by simp)
    | inr x' => rw [Option.some.inj (csem_injective (a₁ := some x) (a₂ := some x') (congrArg (fun t : GSem nD τ sig × ℕ × Bool => t.1.2) h))]

def ringToks : Finset (GSem nD τ sig × ℕ × Bool) := Finset.univ.map ⟨tokOf, tokOf_injective⟩

def u₀ : UU :=
  (initOf (Pipeline.cells cfgs cellOf_inj) (Pipeline.launchToks cfgs cellOf_inj), initOf ringCells ringToks)

/-! ## The ghost state, minted and dealt -/

/-- The duty tokens of device `c`'s own cells. -/
def toks (c : Dev nD) : sProp 𝕄 :=
  iprop((dutyTok ER (cell c none) 0 false ∗ dutyTok ER (cell c none) 0 true) ∗ bigSep Finset.univ fun x => dutyTok ER (cell c (some x)) 0 false)

/-- What the launch deals device `c`. -/
def G (c : Dev nD) : sProp 𝕄 :=
  iprop((bigSep Finset.univ fun k : Option X => roundState ER (Rd m) (cell c k) 0)
    ∗ ((bigSep Finset.univ fun k : Option X => atPos ER (cell c k) 0 ∅ 0) ∗ (bigSep Finset.univ fun k : Option X => reached ER (cell c k) 0)) ∗ toks (F := F) c)

/-- What the devices make of it together. -/
def G' (c : Dev nD) : sProp 𝕄 := iprop(∃ K, records m K ∗ linear (F := F) c)

omit [FloatOps F] in
/-- The barrier's cell and the transfers'. -/
theorem by_cell (Φ : Option X → sProp 𝕄) : bigSep Finset.univ Φ = iprop(Φ none ∗ bigSep Finset.univ fun x => Φ (some x)) := by
  rw [bigSep_univ_equiv (Equiv.optionEquivSumPUnit.{0, 0} X).symm Φ, bigSep_univ_sum,
    show (bigSep Finset.univ fun b : PUnit.{1} => Φ ((Equiv.optionEquivSumPUnit.{0, 0} X).symm (Sum.inr b))) = Φ none from
      bigSep_univ_of_subsingleton PUnit.unit]
  exact Entails.antisymm BI.sep_comm BI.sep_comm

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Option X => Φ (cell c k) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, two]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat']; · iexact Hat'
    iexact Hr'
  iexact Htok'

omit [FloatOps F] in
/-- The barrier semaphore is the launch's one unscoped semaphore. -/
theorem unscopedSems0_eq (c : Dev nD) : (unscopedSems0 c : sProp 𝕄) = semVal (cell c none) 0 := by
  unfold unscopedSems0; rw [bigSep_eq_bigSepL_of_eq [SemLoc.reg barS] (by decide) (by decide)]; rfl

omit [FloatOps F] in
theorem ownSems0_eq (c : Dev nD) : (Pipeline.ownSems0 (Ix := Unit) (Name := ℕ) (U := UU) (Lvl := ℕ) (Val := Elt F) (τ := τ) osem c : sProp 𝕄)
    = bigSep Finset.univ fun x => zero (F := F) c x := rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option X => semVal (cell c k) 0 : sProp 𝕄) := by
  rw [ownSems0_eq, unscopedSems0_eq, by_cell]
  iintro ⟨HS, HB⟩
  isplitl [HB]; · iexact HB
  iexact HS

/-- Each of a device's cells put under its invariant. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Option X => iprop(∃ κ : ℕ, cellInv ER (Rd m) κ (cell c k)))
          ∗ ((bigSep Finset.univ fun k : Option X => atPos ER (cell c k) 0 ∅ 0) ∗ (bigSep Finset.univ fun k : Option X => reached ER (cell c k) 0)) ∗ toks (F := F) c) := by
  unfold G
  iintro ⟨Hos, Hus, Hst, Hat, Htok⟩
  ihave Hv := (sems0_eq (F := F) c) $$ [Hos Hus]
  · isplitl [Hos] <;> iassumption
  imod (show iprop((bigSep Finset.univ fun k : Option X => semVal (cell c k) 0) ∗ bigSep Finset.univ fun k : Option X => roundState ER (Rd m) (cell c k) 0)
      ⊢ (|={Set.univ}=> bigSep Finset.univ fun k => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv] <;> iassumption
  imodintro
  isplitl [Hinv]; · iexact Hinv
  isplitl [Hat]; · iexact Hat
  iexact Htok

/-- Which device pays a transfer semaphore's duty, from the device whose cell it is. -/
def payE (x : X) : Dev nD ≃ Dev nD :=
  match x.1 with
  | 0 => Equiv.refl _
  | 1 => ring x.2.2.2
  | 2 => Equiv.refl _
  | 3 => ring x.2.2.2

theorem payCell_eq (c : Dev nD) (x : X) : payCell c x = cell (payE x c) (some x) := by
  obtain ⟨k, h, s, d⟩ := x
  fin_cases k <;> rfl

/-- The tokens of the duties device `c` pays. -/
def payToks (c : Dev nD) : sProp 𝕄 :=
  iprop((dutyTok ER (cell (up false c) none) 0 false ∗ dutyTok ER (cell (up true c) none) 0 true)
    ∗ bigSep Finset.univ fun x => dutyTok ER (payCell c x) 0 false)

omit [FloatOps F] in
/-- The tokens dealt around the ring. -/
theorem toks_around : (bigSep Finset.univ fun c : Dev nD => (toks (F := F) c : sProp 𝕄)) ⊢ bigSep Finset.univ fun c : Dev nD => payToks (F := F) c := by
  unfold toks payToks
  rw [bigSep_sep', bigSep_sep', bigSep_sep', bigSep_sep',
    bigSep_univ_equiv (ring false).symm (fun c : Dev nD => (dutyTok ER (cell c none) 0 false : sProp 𝕄)),
    bigSep_univ_equiv (ring true).symm (fun c : Dev nD => (dutyTok ER (cell c none) 0 true : sProp 𝕄)),
    BI.bigSep_univ_comm (fun (c : Dev nD) (x : X) => (dutyTok ER (cell c (some x)) 0 false : sProp 𝕄)),
    BI.bigSep_univ_comm (fun (c : Dev nD) (x : X) => (dutyTok ER (payCell c x) 0 false : sProp 𝕄)),
    show (bigSep Finset.univ fun x : X => bigSep Finset.univ fun c : Dev nD => (dutyTok ER (payCell c x) 0 false : sProp 𝕄))
      = bigSep Finset.univ fun x : X => bigSep Finset.univ fun c : Dev nD => (dutyTok ER (cell c (some x)) 0 false : sProp 𝕄) from
      bigSep_congr fun x _ => by
        simp only [payCell_eq]
        exact (bigSep_univ_equiv (payE x) (fun c : Dev nD => (dutyTok ER (cell c (some x)) 0 false : sProp 𝕄))).symm]
  exact Entails.refl _

theorem ghost_intro (K : Dev nD × Option X → ℕ) (c : Dev nD) :
    iprop(records m K ∗ (bigSep Finset.univ fun k : Option X => atPos ER (cell c k) 0 ∅ 0) ∗ payToks (F := F) c) ⊢ G' m c := by
  unfold G' linear payToks
  rw [by_cell]
  iintro ⟨#HR, ⟨HaB, Ha⟩, Ht⟩
  iexists K
  isplitr; · iexact HR
  isplitl [HaB Ha]
  · isplitl [HaB]; · iexact HaB
    iexact Ha
  iexact Ht

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- The invariants gathered for everyone, the tokens dealt to their payers. -/
theorem regroup :
    (bigSep Finset.univ fun c : Dev nD => iprop((bigSep Finset.univ fun k : Option X => iprop(∃ κ : ℕ, cellInv ER (Rd m) κ (cell c k)))
          ∗ ((bigSep Finset.univ fun k : Option X => atPos ER (cell c k) 0 ∅ 0) ∗ (bigSep Finset.univ fun k : Option X => reached ER (cell c k) 0)) ∗ toks (F := F) c) : sProp 𝕄)
      ⊢ bigSep Finset.univ (G' m) := by
  rw [bigSep_sep', bigSep_sep', bigSep_sep', ← bigSep_univ_prod (fun ck : Dev nD × Option X => iprop(∃ κ : ℕ, cellInv ER (Rd m) κ (cell ck.1 ck.2))),
    ← bigSep_univ_prod (fun ck : Dev nD × Option X => (reached ER (cell ck.1 ck.2) 0 : sProp 𝕄))]
  iintro ⟨HI, ⟨Hat, #HR⟩, Htok⟩
  ihave HK := (BI.bigSep_exists_pi Finset.univ (fun (ck : Dev nD × Option X) (κ : ℕ) => (cellInv ER (Rd m) κ (cell ck.1 ck.2) : sProp 𝕄))) $$ HI
  icases HK with ⟨%K, #HI⟩
  ihave Htk := (toks_around (F := F)) $$ Htok
  iapply (bigSep_with_persistent (R := records m K) fun c _ => ghost_intro m K c)
  isplitr
  · unfold records
    iapply (Entails.of_eq (bigSep_sep' Finset.univ (fun ck : Dev nD × Option X => (cellInv ER (Rd m) (K ck) (cell ck.1 ck.2) : sProp 𝕄)) (fun ck => reached ER (cell ck.1 ck.2) 0)).symm)
    isplitl; · iexact HI
    iexact HR
  · iapply (Entails.of_eq (bigSep_sep' Finset.univ (fun c : Dev nD => bigSep Finset.univ fun k : Option X => (atPos ER (cell c k) 0 ∅ 0 : sProp 𝕄)) payToks).symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits of the launch -/

omit [FloatOps F] in
/-- The credits of the transfers of a list. -/
theorem creds_list (c : Dev nD) : ∀ l : List Rx,
    (Pipeline.launchCred (fun d => owedL d l) c : sProp 𝕄) ⊢ bigSepL l fun r => cred (tallyAt (cell c (some (rx r))) () N)
  | [] => by
    unfold owedL
    rw [Pipeline.launchCred_zero, bigSepL_nil]
    exact Entails.refl _
  | r :: l => by
    rw [show (fun d => owedL d (r :: l)) = fun d => owedL d l + tallyAt (owedCell d r) () N from rfl, Pipeline.launchCred_add, bigSepL_cons']
    iintro ⟨Hl, Hr⟩
    isplitl [Hr]
    · iapply (Pipeline.launchCred_tallyAt (csem (some (rx r))) (dn r.2.2.2) (up r.2.2.2) (dn_up _) (up_dn _) () N c); iexact Hr
    iapply (creds_list c l); iexact Hl

omit [FloatOps F] in
theorem creds_intro (c : Dev nD) : (Pipeline.launchCred O₀ c : sProp 𝕄) ⊢ creds (F := F) c := by
  rw [show (O₀ : Dev nD → CellTallies nD τ sig Unit) = fun d => (owedL d allRx + tallyAt (cell (up true d) none) () 1) + tallyAt (cell (up false d) none) () 1 from rfl,
    Pipeline.launchCred_add, Pipeline.launchCred_add]
  unfold creds
  rw [bigSep_univ_eq_bigSepL allRx (by decide) (by decide), show (2 : ℕ) = 1 + 1 from rfl, ← tallyAt_add]
  iintro ⟨⟨Hl, H1⟩, H0⟩
  isplitl [H0 H1]
  · iapply (cred_add _ _).2
    isplitl [H0]
    · iapply (Pipeline.launchCred_tallyAt (csem none) (up false) (dn false) (up_dn _) (dn_up _) () 1 c); iexact H0
    iapply (Pipeline.launchCred_tallyAt (csem none) (up true) (dn true) (up_dn _) (dn_up _) () 1 c); iexact H1
  iapply (creds_list c allRx); iexact Hl

/-! ## The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  rw [scratch_eq]
  iintro ⟨Hs, -, ⟨H0, H1, H2, H3⟩⟩
  isplitl [Hs]; · iexact Hs
  isplitl [H0 H1]
  · isplitl [H0]; · iexact H0
    iexact H1
  isplitl [H2]; · iexact H2
  iexact H3

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  rw [scratch_eq]
  iintro ⟨⟨⟨H0, H1⟩, H2, H3⟩, Hz, HzB⟩
  isplitl [HzB]; · iexact HzB
  isplitl [Hz]; · iexact Hz
  isplitl [H0]; · iexact H0
  isplitl [H1]; · iexact H1
  isplitl [H2]; · iexact H2
  iexact H3

theorem waits (c : Dev nD) : (levAts L lv : sProp 𝕄) ⊢ Pipeline.cellsWaits cfgs (dats m ρ) () 0 c :=
  Pipeline.cellsWaits_intro cfgs (dats m ρ) () 0 c fun w s t =>
    mayWait_low c _ (by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 32000 in
/-- From any memory with every counter at zero, every weakly fair execution of the four devices terminates; each
    window's array ends at its computed contents and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-! ## The arrays after the run -/

/-- A window that is the whole array places each element at itself. -/
theorem blk_emb_x (t : Fin cfg0.N) (y : S2048x512.Idx) : (win0_0.blk t).view.emb y = y :=
  funext fun a => Fin.ext (win0_0.rect_emb_val_of_index_zero t a rfl y)
theorem blk_emb_w (t : Fin cfg0.N) (y : S512x2048.Idx) : (win0_1.blk t).view.emb y = y :=
  funext fun a => Fin.ext (win0_1.rect_emb_val_of_index_zero t a rfl y)
theorem blk_emb_out (t : Fin cfg0.N) (y : S2048x2048.Idx) : (win0_2.blk t).view.emb y = y :=
  funext fun a => Fin.ext (win0_2.rect_emb_val_of_index_zero t a rfl y)

/-- The block a device reads is its argument array. -/
theorem xstg_eq (c : Dev nD) : xstg m c = m ((c : Thread nD τ).loc main_arg0) :=
  funext fun y => congrArg (m ((c : Thread nD τ).loc main_arg0)) (blk_emb_x t0_0 y)
theorem wstg_eq (c : Dev nD) : wstg m c = m ((c : Thread nD τ).loc main_arg1) :=
  funext fun y => congrArg (m ((c : Thread nD τ).loc main_arg1)) (blk_emb_w t0_0 y)

theorem finalA_out (c : Dev nD) : finalA m ρ c (2 : Fin 3) = outF m :=
  (dats m ρ 0 c).arrAt_eq_of_cover (2 : Fin 3) (outF m)
    (fun t _ => funext fun y => (congrArg (outF m) (blk_emb_out t y)).symm)
    (fun i => ⟨t0_0, flush0_2 t0_0, by
      have h := (win0_2.blk t0_0).view.emb_mem_set i
      rw [blk_emb_out] at h
      exact h⟩)

/-- The run, read at the arrays: every device ends with the same result, its arguments unchanged, and every counter
    at zero. -/
theorem run_values : θ_run defs (onTc (τ := τ) (main (F := F))) (s₀ m ρ) (fun r =>
    (∀ c : Dev nD, r.2.mem ((c.tc : Thread nD τ).loc main_v1) = outF m
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) :=
  (θ_run defs _ _).mono (fun _ h => ⟨fun c => ⟨(h.1 c (2 : Fin 3)).trans (finalA_out m ρ c),
      (h.1 c (0 : Fin 3)).trans ((dats m ρ 0 c).arrAt_in (0 : Fin 3) rfl _),
      (h.1 c (1 : Fin 3)).trans ((dats m ρ 0 c).arrAt_in (1 : Fin 3) rfl _)⟩, h.2⟩) (run_main m ρ)

end Cert.KernelIdeal.Ring

end
-- ==== Proof.KernelIdeal.Sums.lean ====
/-
What the kernel's rows are over the extended reals: each finished row is the activation of the sum, over the four
devices, of that device's partial product.
-/
module

public import proofs.«01_k».proof.Proof.KernelIdeal.Run
public import Idealize.ShloMosaic.Lib.Pointwise
public import Idealize.ShloMosaic.Lib.ValueIdx
public import Idealize.ShloMosaic.PureOps.Ideal.Laws

@[expose] public section

noncomputable section

namespace Cert.KernelIdeal.Ring

open Cert.KernelIdeal Cert.KernelIdeal.Gen
open Idealize.ShloMosaic
open Idealize.ShloMosaic.TcCoe
open Idealize.SL.Sem

variable (m : (ℓ : Loc nD τ sig) → Buf (Elt Ideal) ℓ)

/-- Device `c`'s block of `x` at a row and a column. -/
abbrev xAt (c : Dev nD) (r : Fin 2048) (k : Fin 512) : EReal := m ((c : Thread nD τ).loc main_arg0) (ix2 (n0 := 2048) (n1 := 512) r k)
/-- Device `c`'s block of `w` at a row and a column. -/
abbrev wAt (c : Dev nD) (k : Fin 512) (q : Fin 2048) : EReal := m ((c : Thread nD τ).loc main_arg1) (ix2 (n0 := 512) (n1 := 2048) k q)

/-- Device `c`'s partial product at a row and a column. -/
def prodAt (c : Dev nD) (r q : Fin 2048) : EReal := ∑ k : Fin 512, xAt m c r k * wAt m c k q

/-- Row `i` of segment `s` of half `d` of chunk `e`. -/
def rowOf (d : Bool) (e : Dev nD) (s : Fin 4) (i : Fin 64) : Fin 2048 :=
  ⟨512 * e.val + cond d 256 0 + 64 * s.val + i.val, by
    have he : e.val < 4 := e.isLt
    have := s.isLt; have := i.isLt
    cases d <;> simp only [cond_true, cond_false] <;> omega⟩

/-- The rows a device multiplies at hop `h` are those of the chunk `h + 1` steps back. -/
theorem xOff_eq (d : Bool) (c : Dev nD) (h : Fin 3) (s : Fin 4) :
    xOff d c h s = ![512 * (src d (h.val + 1) c).val + cond d 256 0 + 64 * s.val, 0] := by
  revert d c h s; decide

theorem ownX_off (c : Dev nD) (d : Bool) (a : Fin 2) : (ownXRect c d).off a = (![512 * c.val + cond d 256 0, 0] : Fin 2 → ℕ) a := by
  revert c d a; decide

theorem xv_apply (d : Bool) (c : Dev nD) (h : Fin 3) (s : Fin 4) (i : Fin 64) (k : Fin 512) :
    xv m d c h s (ix2 (n0 := 64) (n1 := 512) i k) = xAt m c (rowOf d (src d (h.val + 1) c) s i) k := by
  unfold xv
  rw [View.readAt_apply, xstg_eq]
  refine congrArg (m ((c : Thread nD τ).loc main_arg0)) (funext fun a => Fin.ext ?_)
  have h0 := congrFun (xOff_eq d c h s)
  fin_cases a
  · show xOff d c h s 0 + 1 * i.val = 512 * (src d (h.val + 1) c).val + cond d 256 0 + 64 * s.val + i.val
    rw [h0]; show 512 * _ + _ + _ + _ = _; omega
  · show xOff d c h s 1 + 1 * k.val = k.val
    rw [h0]; show 0 + _ = _; omega

theorem wv_apply (c : Dev nD) (k : Fin 512) (q : Fin 2048) :
    wv m c (ix2 (n0 := 512) (n1 := 2048) k q) = wAt m c k q := by
  unfold wv
  rw [View.readAt_apply, wstg_eq]
  refine congrArg (m ((c : Thread nD τ).loc main_arg1)) (funext fun a => Fin.ext ?_)
  fin_cases a
  · show 0 + 1 * k.val = k.val; omega
  · show 0 + 1 * q.val = q.val; omega

theorem pay4_apply (vx : Vec Ideal S64x512 .f32) (vw : Vec Ideal S512x2048 .f32) (i : Fin 64) (q : Fin 2048) :
    k0_pay4 vx vw (ix2 (n0 := 64) (n1 := 2048) i q)
      = ∑ k : Fin 512, vx (ix2 (n0 := 64) (n1 := 512) i k) * vw (ix2 (n0 := 512) (n1 := 2048) k q) := by
  unfold k0_pay4
  simp only [pointwise]
  rw [zero_add]

theorem pay5_apply (v : FVec Ideal S64x2048 .f32) (vr : Vec Ideal S1x64x2048 .f32) (i : Fin 64) (q : Fin 2048) :
    k0_pay5 v vr (ix3 (n0 := 1) (n1 := 64) (n2 := 2048) 0 i q)
      = v (ix2 (n0 := 64) (n1 := 2048) i q) + vr (ix3 (n0 := 1) (n1 := 64) (n2 := 2048) 0 i q) := by
  unfold k0_pay5
  simp only [pointwise]

theorem pay3_apply (vx : Vec Ideal S256x512 .f32) (vw : Vec Ideal S512x2048 .f32) (i : Fin 256) (q : Fin 2048) :
    k0_pay3 vx vw (ix3 (n0 := 1) (n1 := 256) (n2 := 2048) 0 i q)
      = ∑ k : Fin 512, vx (ix2 (n0 := 256) (n1 := 512) i k) * vw (ix2 (n0 := 512) (n1 := 2048) k q) := by
  unfold k0_pay3
  simp only [pointwise]
  rw [zero_add]

/-- The activation as the kernel computes it. -/
def act (y : EReal) : EReal := y * Ideal.div 1 (1 + Ideal.exp (0 - y))

theorem pay46_apply (vx : Vec Ideal S64x512 .f32) (vw : Vec Ideal S512x2048 .f32) (vr : Vec Ideal S1x64x2048 .f32)
    (i : Fin 64) (q : Fin 2048) :
    k0_pay46 vx vw vr (ix2 (n0 := 64) (n1 := 2048) i q)
      = act ((∑ k : Fin 512, vx (ix2 (n0 := 64) (n1 := 512) i k) * vw (ix2 (n0 := 512) (n1 := 2048) k q))
          + vr (ix3 (n0 := 1) (n1 := 64) (n2 := 2048) 0 i q)) := by
  unfold k0_pay46 act
  simp only [pointwise]
  simp only [zero_add]

/-- The half chunk that a device starts with. -/
theorem ov_apply (d : Bool) (c : Dev nD) (s : Fin 4) (i : Fin 64) (k : Fin 512) :
    ov m d c (ix2 (n0 := 256) (n1 := 512) ⟨64 * s.val + i.val, by omega⟩ k) = xAt m c (rowOf d c s i) k := by
  have h0 := ownX_off c d
  cases d <;>
  · unfold ov
    dsimp only
    rw [View.readAt_apply, xstg_eq]
    refine congrArg (m ((c : Thread nD τ).loc main_arg0)) (funext fun a => Fin.ext ?_)
    fin_cases a
    · show (ownXRect c _).off 0 + 1 * (64 * s.val + i.val) = 512 * c.val + cond _ 256 0 + 64 * s.val + i.val
      rw [h0]; show 512 * c.val + _ + _ = _; omega
    · show (ownXRect c _).off 1 + 1 * k.val = k.val
      rw [h0]; show 0 + _ = _; omega

theorem segIx_ix3 (s : Fin 4) (i : Fin 64) (q : Fin 2048) :
    segIx s (ix3 (n0 := 1) (n1 := 64) (n2 := 2048) 0 i q)
      = ix3 (n0 := 1) (n1 := 256) (n2 := 2048) 0 ⟨64 * s.val + i.val, by omega⟩ q := by
  funext a; fin_cases a <;> rfl

/-- The partial product of the rows that a device multiplies at hop `h`. -/
theorem step_apply (d : Bool) (c : Dev nD) (h : Fin 3) (s : Fin 4) (i : Fin 64) (q : Fin 2048) :
    (∑ k : Fin 512, xv m d c h s (ix2 (n0 := 64) (n1 := 512) i k) * wv m c (ix2 (n0 := 512) (n1 := 2048) k q))
      = prodAt m c (rowOf d (src d (h.val + 1) c) s i) q := by
  simp only [xv_apply, wv_apply]; rfl

/-- What is sent at the first hop: the device's own partial product. -/
theorem acc0_apply (d : Bool) (c : Dev nD) (s : Fin 4) (i : Fin 64) (q : Fin 2048) :
    accV m d 0 c s (ix3 (n0 := 1) (n1 := 64) (n2 := 2048) 0 i q) = prodAt m c (rowOf d c s i) q := by
  rw [accV_zero]
  show k0_pay3 (ov m d c) (wv m c) (segIx s _) = _
  rw [segIx_ix3, pay3_apply]
  simp only [ov_apply, wv_apply]; rfl

/-- What is sent at a later hop: the device's partial product plus what arrived. -/
theorem acc_succ_apply (d : Bool) (h : Fin 2) (c : Dev nD) (s : Fin 4) (i : Fin 64) (q : Fin 2048) :
    accV m d h.succ c s (ix3 (n0 := 1) (n1 := 64) (n2 := 2048) 0 i q)
      = prodAt m c (rowOf d (src d (h.val + 1) c) s i) q
        + accV m d h.castSucc (up d c) s (ix3 (n0 := 1) (n1 := 64) (n2 := 2048) 0 i q) := by
  rw [accV_succ, sumOf, pay5_apply, pay4_apply, step_apply]; rfl

/-- The finished rows: the activation of the four devices' partial products, in the order of the ring. -/
theorem fin_apply (d : Bool) (c : Dev nD) (s : Fin 4) (i : Fin 64) (q : Fin 2048) :
    finV m d c s (ix2 (n0 := 64) (n1 := 2048) i q)
      = act (prodAt m c (rowOf d (src d 3 c) s i) q + (prodAt m (up d c) (rowOf d (src d 3 c) s i) q
        + (prodAt m (up d (up d c)) (rowOf d (src d 3 c) s i) q
          + prodAt m (up d (up d (up d c))) (rowOf d (src d 3 c) s i) q))) := by
  unfold finV
  rw [actOf, pay46_apply, step_apply]
  have h2 := acc_succ_apply m d 1 (up d c) s i q
  have h1 := acc_succ_apply m d 0 (up d (up d c)) s i q
  have h0 := acc0_apply m d (up d (up d (up d c))) s i q
  exact congrArg act (congrArg _ (h2.trans (congrArg _ (h1.trans (congrArg _ h0)))))

/-- Going round the ring meets every device once. -/
theorem sum_around (d : Bool) (c : Dev nD) (f : Dev nD → EReal) :
    f c + (f (up d c) + (f (up d (up d c)) + f (up d (up d (up d c))))) = ∑ b : Dev nD, f b := by
  rw [show (Finset.univ : Finset (Dev nD)) = {c, up d c, up d (up d c), up d (up d (up d c))} by revert d c; decide,
    Finset.sum_insert (by revert d c; decide), Finset.sum_insert (by revert d c; decide),
    Finset.sum_insert (by revert d c; decide), Finset.sum_singleton]

theorem src_three (d : Bool) (e : Dev nD) : src d 3 (up d e) = e := by revert d e; decide

/-- The result at a row and a column: the activation of the sum of all devices' partial products there. -/
theorem outF_apply (r q : Fin 2048) :
    outF m (ix2 (n0 := 2048) (n1 := 2048) r q) = act (∑ b : Dev nD, prodAt m b r q) := by
  have hr := r.isLt
  have e1 : outF m (ix2 (n0 := 2048) (n1 := 2048) r q)
      = finV m (decide (r.val / 256 % 2 = 1)) (up (decide (r.val / 256 % 2 = 1)) ⟨r.val / 512, by show _ < 4; omega⟩)
          ⟨r.val / 64 % 4, by omega⟩ (ix2 (n0 := 64) (n1 := 2048) ⟨r.val % 64, by omega⟩ q) := by
    unfold outF
    exact congrArg _ (funext fun a => by fin_cases a <;> rfl)
  rw [e1, fin_apply, src_three, sum_around _ _ fun b => prodAt m b _ q]
  have e2 : rowOf (decide (r.val / 256 % 2 = 1)) ⟨r.val / 512, by show _ < 4; omega⟩ ⟨r.val / 64 % 4, by omega⟩
      ⟨r.val % 64, by omega⟩ = r := by
    refine Fin.ext ?_
    show 512 * (r.val / 512) + cond (decide (r.val / 256 % 2 = 1)) 256 0 + 64 * (r.val / 64 % 4) + r.val % 64 = r.val
    rcases Nat.mod_two_eq_zero_or_one (r.val / 256) with h | h <;> rw [h] <;> simp <;> omega
  rw [e2]

/-! ## Against the whole arrays -/

/-- The product of the whole arrays at a row and a column. -/
def wholeAt (x w : (⟨2, ![2048, 2048]⟩ : Shape).Idx → EReal) (r q : Fin 2048) : EReal :=
  ∑ k : Fin 2048, x (ix2 r k) * w (ix2 k q)

/-- The devices' partial products add up to the product of the whole arrays. -/
theorem sum_prodAt (x w : (⟨2, ![2048, 2048]⟩ : Shape).Idx → EReal)
    (hx : ∀ c : Dev nD, m ((c.tc : Thread nD τ).loc main_arg0) = Layout.block ⟨2, ![2048, 512]⟩ ⟨2, ![2048, 2048]⟩ 1 4 c x)
    (hw : ∀ c : Dev nD, m ((c.tc : Thread nD τ).loc main_arg1) = Layout.block ⟨2, ![512, 2048]⟩ ⟨2, ![2048, 2048]⟩ 0 4 c w)
    (r q : Fin 2048) : ∑ b : Dev nD, prodAt m b r q = wholeAt x w r q := by
  unfold wholeAt
  rw [Fin.sum_univ_tiles 4 512 rfl]
  refine Finset.sum_congr rfl fun b _ => ?_
  unfold prodAt
  refine Finset.sum_congr rfl fun k _ => ?_
  have e1 : xAt m b r k = x (ix2 r ⟨b.val * 512 + k.val, by have : b.val < 4 := b.isLt; omega⟩) := by
    refine (congrFun (hx b) _).trans (congrArg x (funext fun a => Fin.ext ?_))
    fin_cases a <;> rfl
  have e2 : wAt m b k q = w (ix2 ⟨b.val * 512 + k.val, by have : b.val < 4 := b.isLt; omega⟩ q) := by
    refine (congrFun (hw b) _).trans (congrArg w (funext fun a => Fin.ext ?_))
    fin_cases a <;> rfl
  rw [e1, e2]

/-- The kernel's result, index by index, from the whole arrays. -/
theorem outF_whole (x w : (⟨2, ![2048, 2048]⟩ : Shape).Idx → EReal)
    (hx : ∀ c : Dev nD, m ((c.tc : Thread nD τ).loc main_arg0) = Layout.block ⟨2, ![2048, 512]⟩ ⟨2, ![2048, 2048]⟩ 1 4 c x)
    (hw : ∀ c : Dev nD, m ((c.tc : Thread nD τ).loc main_arg1) = Layout.block ⟨2, ![512, 2048]⟩ ⟨2, ![2048, 2048]⟩ 0 4 c w)
    (r q : Fin 2048) : outF m (ix2 (n0 := 2048) (n1 := 2048) r q) = act (wholeAt x w r q) := by
  rw [outF_apply, sum_prodAt m x w hx hw]

/-! ## The activation -/

/-- One plus an exponential is not zero. -/
theorem one_add_exp_ne (y : EReal) : 1 + Ideal.exp y ≠ 0 := by
  have h : 0 ≤ Ideal.exp y := by
    induction y with
    | bot => exact le_refl _
    | top => exact le_top
    | coe r => exact EReal.coe_nonneg.2 (Real.exp_pos r).le
  have h1 : (0 : EReal) < 1 + Ideal.exp y := lt_of_lt_of_le zero_lt_one (le_add_of_nonneg_right h)
  exact h1.ne'

/-- Multiplying by the reciprocal of `1 + exp (-y)` is dividing by it. -/
theorem act_eq (y : EReal) : act y = Ideal.div y (1 + Ideal.exp (-y)) := by
  unfold act Ideal.div
  rw [zero_sub, if_neg (one_add_exp_ne _), if_neg (one_add_exp_ne _), one_mul]

end Cert.KernelIdeal.Ring

end
-- ==== Proof.Refs.Values.lean ====
/-
What the references compute over the extended reals, index by index, and where the clip does nothing.
-/
module

public import proofs.«01_k».proof.Defs
public import proofs.«01_k».proof.Proof.Gen.ReferenceIdeal.Run
public import proofs.«01_k».proof.Proof.Gen.SiluIdeal.Run
public import Idealize.ShloMosaic.Lib.Pointwise
public import Idealize.ShloMosaic.Lib.ValueIdx
public import Idealize.ShloMosaic.PureOps.Ideal.Laws

@[expose] public section

noncomputable section

namespace Cert.Proof

open Idealize.ShloMosaic

/-- An array of the whole problem. -/
abbrev Whole : Type := FVec Ideal ⟨2, ![2048, 2048]⟩ .f32

/-- The matrix product of two arrays at a row and a column. -/
def dotAt (x w : Whole) (r q : Fin 2048) : EReal := ∑ k : Fin 2048, x (ix2 r k) * w (ix2 k q)

/-- The side conditions of the mask. -/
theorem maskFacts : Cert.On_within_clip.Facts where
  bcast_S_S2048x2048 := by decide
  dot_S2048x2048_S2048x2048_S2048x2048_1_0_0_1_n_n_wf := by decide

section Unclipped
open Cert.SiluIdeal Cert.SiluIdeal.Gen

/-- What the unclipped reference leaves in its result. -/
def siluOut (x w : Whole) : Whole :=
  Host.divf (Host.dotGeneral dot_S2048x2048_S2048x2048_S2048x2048_1_0_0_1_n_n none x w)
    (addf (broadcastInDim S2048x2048 ![] bcast_S_S2048x2048 (constant S_ .f32 0x3F800000#32))
      (Host.exp (Host.negf (Host.dotGeneral dot_S2048x2048_S2048x2048_S2048x2048_1_0_0_1_n_n none x w))))

/-- The unclipped reference, index by index: the product divided by one plus the exponential of its negation. -/
theorem siluOut_apply (x w : Whole) (r q : Fin 2048) :
    siluOut x w (ix2 r q) = Ideal.div (dotAt x w r q) (1 + Ideal.exp (-dotAt x w r q)) := by
  unfold siluOut dotAt
  simp only [pointwise]
  simp only [zero_add]
end Unclipped

section Clipped
open Cert.ReferenceIdeal Cert.ReferenceIdeal.Gen

/-- What the reference leaves in its result. -/
def refOut (x w : Whole) : Whole :=
  Host.divf (Host.dotGeneral dot_S2048x2048_S2048x2048_S2048x2048_1_0_0_1_n_n none x w)
    (addf (broadcastInDim S2048x2048 ![] bcast_S_S2048x2048 (constant S_ .f32 0x3F800000#32))
      (Host.exp (Host.negf (minimumf (broadcastInDim S2048x2048 ![] bcast_S_S2048x2048 (id (constant S_ .f32 0x42700000#32)))
        (maximumf (broadcastInDim S2048x2048 ![] bcast_S_S2048x2048 (id (constant S_ .f32 0xC2700000#32)))
          (Host.dotGeneral dot_S2048x2048_S2048x2048_S2048x2048_1_0_0_1_n_n none x w))))))

/-- The reference, index by index: the same with the exponential's argument clipped. -/
theorem refOut_apply (x w : Whole) (r q : Fin 2048) :
    refOut x w (ix2 r q) = Ideal.div (dotAt x w r q)
      (1 + Ideal.exp (-min (Ideal.ofBits .f32 0x42700000#32) (max (Ideal.ofBits .f32 0xC2700000#32) (dotAt x w r q)))) := by
  unfold refOut dotAt
  simp only [pointwise]
  simp only [zero_add]
  rfl
end Clipped

/-- The mask selects the elements of the product between the clip's bounds. -/
theorem mask_apply [Cert.On_within_clip.Facts] (x w : Whole) (r q : Fin 2048)
    (h : Cert.On_within_clip.fn (F := Ideal) x w (ix2 r q) = 1#1) :
    Ideal.ofBits .f32 0xC2700000#32 ≤ dotAt x w r q ∧ dotAt x w r q ≤ Ideal.ofBits .f32 0x42700000#32 := by
  unfold Cert.On_within_clip.fn at h
  simp only [pointwise] at h
  unfold dotAt
  rw [zero_add] at h
  generalize (∑ k : Fin 2048, x (ix2 r k) * w (ix2 k q)) = y at h ⊢
  by_cases h1 : Ideal.ofBits .f32 0xC2700000#32 ≤ y <;> by_cases h2 : y ≤ Ideal.ofBits .f32 0x42700000#32
  · exact ⟨h1, h2⟩
  all_goals
    exfalso
    simp only [h1, h2] at h
    revert h; decide

/-- Where the mask selects, the clip does nothing. -/
theorem refOut_eq [Cert.On_within_clip.Facts] (x w : Whole) (r q : Fin 2048)
    (h : Cert.On_within_clip.fn (F := Ideal) x w (ix2 r q) = 1#1) :
    refOut x w (ix2 r q) = siluOut x w (ix2 r q) := by
  obtain ⟨h1, h2⟩ := mask_apply x w r q h
  rw [refOut_apply, siluOut_apply, max_eq_right h1, min_eq_right h2]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.SiluIdeal
public import proofs.«01_k».proof.Proof.Gen.SiluIdeal.Run
public import proofs.«01_k».proof.Proof.Kernel.Run
public import proofs.«01_k».proof.Proof.KernelIdeal.Run
public import proofs.«01_k».proof.Proof.KernelIdeal.Sums
public import proofs.«01_k».proof.Proof.Refs.Values
public import Idealize.ShloMosaic.Adequacy
public import Idealize.ShloMosaic.Init
public import Idealize.ShloMosaic.Lib.Quiescent

@[expose] public section

noncomputable section

namespace Cert.Proof

open Idealize.ShloMosaic Idealize.SL.Sem

/-- The kernel runs: no fault, arguments unchanged, every counter at zero at the end. -/
theorem frame_kernel : Cert.quiescent_Kernel := fun m ρ _ =>
  (θ_run Cert.Kernel.defs _ _).mono (fun _ h => ⟨fun c => (h.1 c).2, h.2⟩) (Cert.Kernel.Ring.run_values (F := Bits) m ρ)

/-- The idealized kernel runs: no fault, arguments unchanged, every counter at zero at the end. -/
theorem frame_kernelIdeal : Cert.quiescent_KernelIdeal := fun m ρ _ =>
  (θ_run Cert.KernelIdeal.defs _ _).mono (fun _ h => ⟨fun c => (h.1 c).2, h.2⟩)
    (Cert.KernelIdeal.Ring.run_values (F := Ideal) m ρ)

/-- The reference runs; it has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- The unclipped reference runs; it has no semaphore. -/
theorem frame_siluIdeal : Cert.quiescent_SiluIdeal := fun m ρ _ =>
  (θ_run Cert.SiluIdeal.defs _ _).mono
    (fun r h => ⟨fun c => (h c).2, sem_eq_zero_of_no_sems (by decide) r.2⟩)
    (Cert.SiluIdeal.Value.run (F := Ideal) m ρ)

/-- From memories that hold the blocks of one pair of whole arrays, the kernel's result is the unclipped reference's
    at every index. -/
theorem kernel_eq_silu (m : (ℓ : Loc Cert.KernelIdeal.nD Cert.KernelIdeal.τ Cert.KernelIdeal.sig) → Buf (Elt Ideal) ℓ) (x w : Whole)
    (hx : ∀ c : Dev Cert.KernelIdeal.nD, m ((c.tc : Thread Cert.KernelIdeal.nD Cert.KernelIdeal.τ).loc Cert.KernelIdeal.main_arg0)
      = Layout.block ⟨2, ![2048, 512]⟩ ⟨2, ![2048, 2048]⟩ 1 4 c x)
    (hw : ∀ c : Dev Cert.KernelIdeal.nD, m ((c.tc : Thread Cert.KernelIdeal.nD Cert.KernelIdeal.τ).loc Cert.KernelIdeal.main_arg1)
      = Layout.block ⟨2, ![512, 2048]⟩ ⟨2, ![2048, 2048]⟩ 0 4 c w)
    (i : (⟨2, ![2048, 2048]⟩ : Shape).Idx) : Cert.KernelIdeal.Ring.outF m i = siluOut x w i := by
  obtain ⟨r, q, rfl⟩ : ∃ r q : Fin 2048, i = ix2 r q := ⟨i 0, i 1, eq_ix2 i⟩
  exact (Cert.KernelIdeal.Ring.outF_whole m x w hx hw r q).trans
    ((Cert.KernelIdeal.Ring.act_eq _).trans (siluOut_apply x w r q).symm)

/-- Every element of every device's result is the unclipped reference's. -/
theorem value_silu : Cert.algebraic_KernelIdeal_SiluIdeal := by
  intro m g m' g' _ h
  refine ⟨siluOut (m' (((0 : Dev Cert.SiluIdeal.nD).tc : Thread Cert.SiluIdeal.nD Cert.SiluIdeal.τ).loc Cert.SiluIdeal.main_arg0))
    (m' (((0 : Dev Cert.SiluIdeal.nD).tc : Thread Cert.SiluIdeal.nD Cert.SiluIdeal.τ).loc Cert.SiluIdeal.main_arg1)), ?_, ?_⟩
  · refine (θ_run Cert.KernelIdeal.defs _ _).mono (fun _ H c => ?_) (Cert.KernelIdeal.Ring.run_values (F := Ideal) m g)
    exact ⟨(H.1 c).1.trans (funext (kernel_eq_silu m _ _ (fun c => (h c).1) (fun c => (h c).2))), (H.1 c).2⟩
  · exact (θ_run Cert.SiluIdeal.defs _ _).mono (fun _ H => H 0) (Cert.SiluIdeal.Value.run (F := Ideal) m' g')

/-- Where the clip's bounds hold, every device's result is the reference's. -/
theorem value_reference : @Cert.algebraic_KernelIdeal_ReferenceIdeal_on_within_clip Cert.KernelIdeal.Gen.facts
    Cert.ReferenceIdeal.Gen.facts maskFacts := by
  letI := maskFacts
  intro m g m' g' _ h
  refine ⟨refOut (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run Cert.KernelIdeal.defs _ _).mono (fun _ H c => ?_) (Cert.KernelIdeal.Ring.run_values (F := Ideal) m g)
    refine ⟨fun i hi => ?_, (H.1 c).2⟩
    refine (congrFun (H.1 c).1 i).trans ((kernel_eq_silu m _ _ (fun c => (h c).1) (fun c => (h c).2) i).trans ?_)
    obtain ⟨r, q, rfl⟩ : ∃ r q : Fin 2048, i = ix2 r q := ⟨i 0, i 1, eq_ix2 i⟩
    exact (refOut_eq _ _ r q hi).symm
  · exact (θ_run Cert.ReferenceIdeal.defs _ _).mono (fun _ H => ⟨fun i _ => congrFun (H 0).1 i, (H 0).2⟩)
      (Cert.ReferenceIdeal.Value.run (F := Ideal) m' g')

/-- Everything the certificate claims. -/
theorem claim : Cert.Claim :=
  ⟨Cert.Kernel.Gen.facts, Cert.KernelIdeal.Gen.facts, Cert.ReferenceIdeal.Gen.facts, Cert.SiluIdeal.Gen.facts, maskFacts,
    frame_kernel, frame_kernelIdeal, frame_referenceIdeal, frame_siluIdeal, trivial, value_reference, value_silu⟩

end Cert.Proof

end
